-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x2432 : Shape := ⟨3, ![2, 1024, 2432]⟩
abbrev S2x1024x1 : Shape := ⟨3, ![2, 1024, 1]⟩
abbrev S2432x20736 : Shape := ⟨2, ![2432, 20736]⟩
abbrev S1x20736 : Shape := ⟨2, ![1, 20736]⟩
abbrev S2048x2432 : Shape := ⟨2, ![2048, 2432]⟩
abbrev S2048x1 : Shape := ⟨2, ![2048, 1]⟩
abbrev S2048x20736 : Shape := ⟨2, ![2048, 20736]⟩
abbrev S512x2432 : Shape := ⟨2, ![512, 2432]⟩
abbrev S512x1 : Shape := ⟨2, ![512, 1]⟩
abbrev S2432x2304 : Shape := ⟨2, ![2432, 2304]⟩
abbrev S1x2304 : Shape := ⟨2, ![1, 2304]⟩
abbrev S512x2304 : Shape := ⟨2, ![512, 2304]⟩
abbrev S9x512x2304 : Shape := ⟨3, ![9, 512, 2304]⟩
abbrev S512x128 : Shape := ⟨2, ![512, 128]⟩
abbrev S1x512x2304 : Shape := ⟨3, ![1, 512, 2304]⟩
abbrev S512 : Shape := ⟨1, ![512]⟩

abbrev nBuf : Space → Nat
  | .hbm => 8
  | .vmem => 15
  | .smem => 0
  | _ => 0

abbrev bufTy : (tb : Table) → Fin (tcTables nBuf tb) → BufTy
  | .hbm, ⟨0, _⟩ => ⟨S2x1024x2432, .fp8e4m3⟩
  | .hbm, ⟨1, _⟩ => ⟨S2x1024x1, .f32⟩
  | .hbm, ⟨2, _⟩ => ⟨S2432x20736, .fp8e4m3⟩
  | .hbm, ⟨3, _⟩ => ⟨S1x20736, .f32⟩
  | .hbm, ⟨4, _⟩ => ⟨S2048x2432, .fp8e4m3⟩
  | .hbm, ⟨5, _⟩ => ⟨S2048x1, .f32⟩
  | .hbm, ⟨6, _⟩ => ⟨S2048x1, .f32⟩
  | .hbm, ⟨7, _⟩ => ⟨S2048x20736, .fp8e4m3⟩
  | .local _ .vmem, ⟨0, _⟩ => ⟨S512x2432, .fp8e4m3⟩
  | .local _ .vmem, ⟨1, _⟩ => ⟨S512x2432, .fp8e4m3⟩
  | .local _ .vmem, ⟨2, _⟩ => ⟨S512x1, .f32⟩
  | .local _ .vmem, ⟨3, _⟩ => ⟨S512x1, .f32⟩
  | .local _ .vmem, ⟨4, _⟩ => ⟨S2432x2304, .fp8e4m3⟩
  | .local _ .vmem, ⟨5, _⟩ => ⟨S2432x2304, .fp8e4m3⟩
  | .local _ .vmem, ⟨6, _⟩ => ⟨S1x2304, .f32⟩
  | .local _ .vmem, ⟨7, _⟩ => ⟨S1x2304, .f32⟩
  | .local _ .vmem, ⟨8, _⟩ => ⟨S512x1, .f32⟩
  | .local _ .vmem, ⟨9, _⟩ => ⟨S512x1, .f32⟩
  | .local _ .vmem, ⟨10, _⟩ => ⟨S512x2304, .fp8e4m3⟩
  | .local _ .vmem, ⟨11, _⟩ => ⟨S512x2304, .fp8e4m3⟩
  | .local _ .vmem, ⟨12, _⟩ => ⟨S9x512x2304, .f32⟩
  | .local _ .vmem, ⟨13, _⟩ => ⟨S512x128, .f32⟩
  | .local _ .vmem, ⟨14, _⟩ => ⟨S512x1, .f32⟩
  | _, _ => ⟨S2x1024x2432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![5, 9], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v27 : Index := Scalar.indexCast arg1
  let c0_14 : Index := 0#32
  let c0_15 : Index := 0#32
  ![v27.toNat, 0, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c4_i32 : BitVec 32 := 4#32
  let v4 : BitVec 1 := Scalar.cmpi .slt arg0 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off2 (i : grid0.Coords) : Fin 3 → Nat :=
  let arg1 : BitVec 32 := BitVec.ofNat 32 (i 1).val
  let v16 : Index := Scalar.indexCast arg1
  let c0 : Index := 0#32
  let c0_7 : Index := 0#32
  ![v16.toNat, 0, 0]
def k0_cond3 (i : grid0.Coords) : BitVec 1 :=
  let arg0 : BitVec 32 := BitVec.ofNat 32 (i 0).val
  let c4_i32_3 : BitVec 32 := 4#32
  let v8 : BitVec 1 := Scalar.cmpi .eq arg0 c4_i32_3
  let v9 : BitVec 32 := Scalar.extui v8
  let c0_i32_4 : BitVec 32 := 0#32
  let v10 : BitVec 1 := Scalar.cmpi .ne v9 c0_i32_4
  v10

def k0_off3 (i : grid0.Coords) : Fin 3 → Nat :=
  let arg1 : BitVec 32 := BitVec.ofNat 32 (i 1).val
  let v16 : Index := Scalar.indexCast arg1
  let c0 : Index := 0#32
  let c0_7 : Index := 0#32
  ![v16.toNat, 0, 0]
def k0_cond4 (i : grid0.Coords) : BitVec 1 :=
  let arg0 : BitVec 32 := BitVec.ofNat 32 (i 0).val
  let c4_i32_5 : BitVec 32 := 4#32
  let v11 : BitVec 1 := Scalar.cmpi .slt arg0 c4_i32_5
  let arg1 : BitVec 32 := BitVec.ofNat 32 (i 1).val
  let c8_i32 : BitVec 32 := 8#32
  let v12 : BitVec 1 := Scalar.cmpi .eq arg1 c8_i32
  let v13 : BitVec 1 := Scalar.andi v11 v12
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .sle arg0 c3_i32
  let c8_i32 : BitVec 32 := 8#32
  let v1 : BitVec 32 := Scalar.select v0 arg1 c8_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .sle arg0 c3_i32
  let c8_i32 : BitVec 32 := 8#32
  let v1 : BitVec 32 := Scalar.select v0 arg1 c8_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

abbrev stage0_0 : Fin 2 → Memref sig .tc .vmem S512x2432 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2432x2304 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2304 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x1024x2432 : Shape := ⟨3, ![2, 1024, 2432]⟩
abbrev S2x1024x1 : Shape := ⟨3, ![2, 1024, 1]⟩
abbrev S2432x20736 : Shape := ⟨2, ![2432, 20736]⟩
abbrev S1x20736 : Shape := ⟨2, ![1, 20736]⟩
abbrev S2048x2432 : Shape := ⟨2, ![2048, 2432]⟩
abbrev S2048x1 : Shape := ⟨2, ![2048, 1]⟩
abbrev S2048x20736 : Shape := ⟨2, ![2048, 20736]⟩
abbrev S2048 : Shape := ⟨1, ![2048]⟩

abbrev nBuf : Space → Nat
  | .hbm => 8
  | .vmem => 6
  | .smem => 0
  | _ => 0

abbrev bufTy : (tb : Table) → Fin (tcTables nBuf tb) → BufTy
  | .hbm, ⟨0, _⟩ => ⟨S2x1024x2432, .fp8e4m3⟩
  | .hbm, ⟨1, _⟩ => ⟨S2x1024x1, .f32⟩
  | .hbm, ⟨2, _⟩ => ⟨S2432x20736, .fp8e4m3⟩
  | .hbm, ⟨3, _⟩ => ⟨S1x20736, .f32⟩
  | .hbm, ⟨4, _⟩ => ⟨S2048x2432, .fp8e4m3⟩
  | .hbm, ⟨5, _⟩ => ⟨S2048x1, .f32⟩
  | .hbm, ⟨6, _⟩ => ⟨S2048x1, .f32⟩
  | .hbm, ⟨7, _⟩ => ⟨S2048x20736, .fp8e4m3⟩
  | .local _ .vmem, ⟨0, _⟩ => ⟨S2048x2432, .fp8e4m3⟩
  | .local _ .vmem, ⟨1, _⟩ => ⟨S2048x1, .f32⟩
  | .local _ .vmem, ⟨2, _⟩ => ⟨S2432x20736, .fp8e4m3⟩
  | .local _ .vmem, ⟨3, _⟩ => ⟨S1x20736, .f32⟩
  | .local _ .vmem, ⟨4, _⟩ => ⟨S2048x1, .f32⟩
  | .local _ .vmem, ⟨5, _⟩ => ⟨S2048x20736, .fp8e4m3⟩
  | _, _ => ⟨S2x1024x2432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F] [Named F]

def κ : String → Option EReal := fun
  | "inv_log_2" => some (((Real.log 2)⁻¹ : ℝ) : EReal)
  | _ => none

abbrev grid0 : Pipeline.Grid := .none

abbrev stage0_0 : Fin 1 → Memref sig .tc .vmem S2048x2432 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2432x20736 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x20736 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x20736 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Steps.lean ====
/-
  What one grid point computes, as functions of vectors: the tile of the scaled product, the running
  row maximum, the scale and its inverse, the codes; and one tile of the scratch that holds nine of them.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile of `x · w · xs · ws` one point computes, as a matrix. -/
abbrev ytile (x : Vec F S512x2432 .fp8e4m3) (w : Vec F S2432x2304 .fp8e4m3) (xs : Vec F S512x1 .f32) (ws : Vec F S1x2304 .f32) : FVec F S512x2304 .f32 :=
  k0_pay7 x w xs ws

/-- The same tile in the shape of one slot of the scratch. -/
abbrev yslot (x : Vec F S512x2432 .fp8e4m3) (w : Vec F S2432x2304 .fp8e4m3) (xs : Vec F S512x1 .f32) (ws : Vec F S1x2304 .f32) : FVec F S1x512x2304 .f32 :=
  k0_pay8 x w xs ws

/-- The running row maximum after a point, from what it was before (`R`, dropped at a row's first tile). -/
abbrev rowmax (i : grid0.Coords) (x : Vec F S512x2432 .fp8e4m3) (w : Vec F S2432x2304 .fp8e4m3) (xs : Vec F S512x1 .f32) (ws : Vec F S1x2304 .f32)
    (R : Vec F S512x128 .f32) : FVec F S512x128 .f32 :=
  k0_pay1 i (k0_pay7 x w xs ws) (k0_pay9 x w xs ws) (k0_pay10 x w xs ws) R

/-- The scale of each row from the 128 partial maxima of the row. -/
abbrev scaleOf (R : Vec F S512x128 .f32) : FVec F S512x1 .f32 :=
  k0_pay5 (k0_pay16 R) (k0_pay17 R) (k0_pay20 (k0_pay17 R) (k0_pay18 R) (k0_pay19 R) 1#32) (k0_pay21 (k0_pay17 R) (k0_pay18 R) (k0_pay19 R) 1#32) 1#32

/-- The inverse of that scale. -/
abbrev invOf (R : Vec F S512x128 .f32) : FVec F S512x1 .f32 :=
  k0_pay6 (k0_pay16 R) (k0_pay17 R) (k0_pay20 (k0_pay17 R) (k0_pay18 R) (k0_pay19 R) 1#32) (k0_pay21 (k0_pay17 R) (k0_pay18 R) (k0_pay19 R) 1#32) 1#32

/-- The codes of a tile from the inverse scale. -/
abbrev codesOf (v : Vec F S1x512x2304 .f32) (I : Vec F S512x1 .f32) : FVec F S512x2304 .fp8e4m3 := k0_pay3 v I

/-- The body prints the same operations in both of its multiplying branches: the second branch's values are the first's. -/
theorem pay12_eq (x : Vec F S512x2432 .fp8e4m3) (w : Vec F S2432x2304 .fp8e4m3) (xs : Vec F S512x1 .f32) (ws : Vec F S1x2304 .f32) :
    k0_pay12 x w xs ws = k0_pay7 x w xs ws := rfl
/-- The two copies of the scaled product agree. -/
theorem pay13_eq (x : Vec F S512x2432 .fp8e4m3) (w : Vec F S2432x2304 .fp8e4m3) (xs : Vec F S512x1 .f32) (ws : Vec F S1x2304 .f32) :
    k0_pay13 x w xs ws = k0_pay8 x w xs ws := rfl
/-- The two copies of the row maximum agree. -/
theorem pay2_eq (i : grid0.Coords) (x : Vec F S512x2432 .fp8e4m3) (w : Vec F S2432x2304 .fp8e4m3) (xs : Vec F S512x1 .f32) (ws : Vec F S1x2304 .f32)
    (R : Vec F S512x128 .f32) :
    k0_pay2 i (k0_pay12 x w xs ws) (k0_pay14 x w xs ws) (k0_pay15 x w xs ws) R = rowmax i x w xs ws R := rfl
/-- The two copies of the codes agree. -/
theorem pay11_eq (v : Vec F S1x512x2304 .f32) (I : Vec F S512x1 .f32) : k0_pay11 v I = k0_pay3 v I := rfl

/-- Slot `j` of the nine lies inside the scratch. -/
theorem slot_inb (j : Fin 9) : ∀ a, (![j.val, 0, 0] : Fin 3 → ℕ) a + S1x512x2304.size a ≤ S9x512x2304.size a := by
  intro a
  have := j.isLt
  match a with
  | ⟨0, _⟩ => show j.val + 1 ≤ 9; omega
  | ⟨1, _⟩ => show 0 + 512 ≤ 512; omega
  | ⟨2, _⟩ => show 0 + 2304 ≤ 2304; omega

/-- Slot `j` of the scratch. -/
def slot (Y : Vec F S9x512x2304 .f32) (j : Fin 9) : Vec F S1x512x2304 .f32 :=
  VecWindow.window (s := S9x512x2304) Y ![j.val, 0, 0] S1x512x2304.size (slot_inb j)

/-- The scratch with slot `j` replaced. -/
def setSlot (Y : Vec F S9x512x2304 .f32) (j : Fin 9) (v : Vec F S1x512x2304 .f32) : Vec F S9x512x2304 .f32 :=
  VecWindow.put (s := S9x512x2304) Y ![j.val, 0, 0] S1x512x2304.size v

/-- A slot just written holds what was written. -/
theorem slot_setSlot_same (Y : Vec F S9x512x2304 .f32) (j : Fin 9) (v : Vec F S1x512x2304 .f32) : slot (setSlot Y j v) j = v :=
  VecWindow.window_put_same (s := S9x512x2304) Y ![j.val, 0, 0] S1x512x2304.size (slot_inb j) v

/-- Writing one slot leaves the others. -/
theorem slot_setSlot_ne (Y : Vec F S9x512x2304 .f32) (j j' : Fin 9) (h : j' ≠ j) (v : Vec F S1x512x2304 .f32) : slot (setSlot Y j v) j' = slot Y j' :=
  VecWindow.window_put_of_disjoint (s := S9x512x2304) Y ![j.val, 0, 0] S1x512x2304.size ![j'.val, 0, 0] S1x512x2304.size (slot_inb j') v 0 (by
    have : j'.val ≠ j.val := fun e => h (Fin.ext e)
    show j'.val + 1 ≤ j.val ∨ j.val + 1 ≤ j'.val
    omega)

end Cert.Kernel.Hand

end
-- ==== Proof.Kernel.Sched.lean ====
/-
  The schedule in closed form: at which points each branch of the body runs, which slot of the scratch it
  touches, and at which points the two outputs are idle, written back, or hold nothing stored.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.TableIdle

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- There are 45 points. -/
theorem lt45 (t : Fin cfg0.N) : t.val < 45 := lt_of_lt_of_eq t.isLt (show cfg0.N = 45 from N_0)

/-- A point's row of tiles. -/
theorem coord0 (t : Fin cfg0.N) : (grid0.coords t 0).val = t.val / 9 % 5 := Pipeline.Grid.coords_val t 0 (by decide) rfl
/-- A point's column of tiles. -/
theorem coord1 (t : Fin cfg0.N) : (grid0.coords t 1).val = t.val / 1 % 9 := Pipeline.Grid.coords_val t 1 (by decide) rfl

/-- The multiplying branch of the first row. -/
theorem cond1_iff (t : Fin cfg0.N) : k0_cond1 (grid0.coords t) = 1#1 ↔ t.val < 9 := by
  have ht := lt45 t
  revert t; decide +kernel
/-- The middle rows' branch. -/
theorem cond2_iff (t : Fin cfg0.N) : k0_cond2 (grid0.coords t) = 1#1 ↔ 9 ≤ t.val ∧ t.val < 36 := by
  revert t; decide +kernel
/-- The draining row's branch. -/
theorem cond3_iff (t : Fin cfg0.N) : k0_cond3 (grid0.coords t) = 1#1 ↔ 36 ≤ t.val := by
  revert t; decide +kernel
/-- The branch at a row's last tile. -/
theorem cond4_iff (t : Fin cfg0.N) : k0_cond4 (grid0.coords t) = 1#1 ↔ t.val < 36 ∧ t.val % 9 = 8 := by
  revert t; decide +kernel

/-- The slot of the scratch a point touches: its column. -/
def col (t : Fin cfg0.N) : Fin 9 := ⟨t.val % 9, Nat.mod_lt _ (by decide)⟩

/-- The slot a multiplying point of the first row writes. -/
theorem off1_eq (t : Fin cfg0.N) : k0_off1 (grid0.coords t) = ![(col t).val, 0, 0] := by
  revert t; decide +kernel
/-- The slot a point of a steady row reads and writes. -/
theorem off2_eq (t : Fin cfg0.N) : k0_off2 (grid0.coords t) = ![(col t).val, 0, 0] := by
  revert t; decide +kernel
/-- The slot a draining point reads. -/
theorem off3_eq (t : Fin cfg0.N) : k0_off3 (grid0.coords t) = ![(col t).val, 0, 0] := by
  revert t; decide +kernel

/-- The scale's window is idle except at the last tile of each multiplying row. -/
theorem idle4 (t : Fin cfg0.N) : cfg0.idle 4 (grid0.coords t) = !decide (t.val < 36 ∧ t.val % 9 = 8) := by
  revert t; decide +kernel
/-- The codes' window is idle in the first row. -/
theorem idle5 (t : Fin cfg0.N) : cfg0.idle 5 (grid0.coords t) = decide (t.val < 9) := by
  revert t; decide +kernel
/-- The scale is written back after points 8, 17, 26 and 44. -/
theorem flush4 (t : Fin cfg0.N) : (cfg0.win 4).flush t = decide (t.val % 9 = 8 ∧ t.val ≠ 35) := by
  revert t; decide +kernel
/-- The codes are written back after every point from 9 on. -/
theorem flush5 (t : Fin cfg0.N) : (cfg0.win 5).flush t = decide (9 ≤ t.val) := by
  revert t; decide +kernel
/-- The scale's buffer holds nothing stored before point 36. -/
theorem fresh4 (t : Fin cfg0.N) : cfg0.fresh 4 t.val = decide (t.val < 36) := by
  revert t; decide +kernel

end Cert.Kernel.Hand

end
-- ==== Proof.Kernel.State.lean ====
/-
  What the scratch and the outputs hold at each point of the grid, from the arrays the kernel is given: the
  tile of a point, the row maximum after it, the scale and its inverse after a row, and the invariant that says so.
-/
module

public import proofs.«01_k».proof.Proof.Kernel.Steps
public import proofs.«01_k».proof.Proof.Kernel.Sched

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid's point of a number (below 45, itself). -/
def pt (n : ℕ) : Fin cfg0.N := ⟨n % 45, lt_of_lt_of_eq (Nat.mod_lt _ (by decide)) (show cfg0.N = 45 from N_0).symm⟩

/-- The point of a point's number is the point. -/
theorem pt_val (t : Fin cfg0.N) : pt t.val = t := Fin.ext (Nat.mod_eq_of_lt (lt45 t))

/-- The four blocks a point reads. -/
abbrev bx (c : Dev nD) (t : Fin cfg0.N) : Vec F S512x2432 .fp8e4m3 := iblk m c 0 t
abbrev bxs (c : Dev nD) (t : Fin cfg0.N) : Vec F S512x1 .f32 := iblk m c 1 t
abbrev bw (c : Dev nD) (t : Fin cfg0.N) : Vec F S2432x2304 .fp8e4m3 := iblk m c 2 t
abbrev bws (c : Dev nD) (t : Fin cfg0.N) : Vec F S1x2304 .f32 := iblk m c 3 t

/-- The tile point `n` computes, as a slot of the scratch. -/
def tileAt (c : Dev nD) (n : ℕ) : Vec F S1x512x2304 .f32 :=
  yslot (bx m c (pt n)) (bw m c (pt n)) (bxs m c (pt n)) (bws m c (pt n))

/-- One point's step of the row maximum. -/
def maxStep (c : Dev nD) (n : ℕ) (R : Vec F S512x128 .f32) : Vec F S512x128 .f32 :=
  rowmax (grid0.coords (pt n)) (bx m c (pt n)) (bw m c (pt n)) (bxs m c (pt n)) (bws m c (pt n)) R

/-- What stands for the row maximum before the first point (it is dropped there). -/
def maxBefore (c : Dev nD) : Vec F S512x128 .f32 := k0_pay9 (bx m c (pt 0)) (bw m c (pt 0)) (bxs m c (pt 0)) (bws m c (pt 0))

/-- The row maximum after point `n`. -/
def maxAt (c : Dev nD) : ℕ → Vec F S512x128 .f32
  | 0 => maxStep m c 0 (maxBefore m c)
  | n + 1 => maxStep m c (n + 1) (maxAt c n)

/-- The scale of row `r` of tiles, and its inverse. -/
def scaleAt (c : Dev nD) (r : ℕ) : Vec F S512x1 .f32 := scaleOf (maxAt m c (9 * r + 8))
/-- The inverse scale of row `r` of tiles. -/
def invAt (c : Dev nD) (r : ℕ) : Vec F S512x1 .f32 := invOf (maxAt m c (9 * r + 8))

/-- The codes point `n` writes: those of the tile nine points before. -/
def codesAt (c : Dev nD) (n : ℕ) : Vec F S512x2304 .fp8e4m3 := codesOf (tileAt m c (n - 9)) (invAt m c (n / 9 - 1))

/-- At the first tile of a row the maximum so far is dropped. -/
theorem rowmax_first (i : grid0.Coords) (hi : (i 1).val = 0) (x : Vec F S512x2432 .fp8e4m3) (w : Vec F S2432x2304 .fp8e4m3)
    (xs : Vec F S512x1 .f32) (ws : Vec F S1x2304 .f32) (R R' : Vec F S512x128 .f32) :
    rowmax i x w xs ws R = rowmax i x w xs ws R' := by
  unfold rowmax k0_pay1
  simp only [hi]
  rfl

/-- The scratch before point `n`: every tile computed and not yet quantised is in its slot, the row maximum is that
    of the point before, and the inverse scale is that of the last finished row. -/
structure Inv (c : Dev nD) (n : ℕ) (Y : Vec F S9x512x2304 .f32) (R : Vec F S512x128 .f32) (I : Vec F S512x1 .f32) : Prop where
  tiles : ∀ k, k < n → k < 36 → (n ≤ k + 9 ∨ 27 ≤ k) → slot Y ⟨k % 9, Nat.mod_lt _ (by decide)⟩ = tileAt m c k
  rmax : 1 ≤ n → n ≤ 36 → R = maxAt m c (n - 1)
  inv : ∀ r, r < 4 → 9 * (r + 1) ≤ n → n < 9 * (r + 2) → I = invAt m c r

/-- Before the first point the invariant holds of any scratch. -/
theorem Inv.zero (c : Dev nD) (Y : Vec F S9x512x2304 .f32) (R : Vec F S512x128 .f32) (I : Vec F S512x1 .f32) : Inv m c 0 Y R I :=
  ⟨fun k h => by omega, fun h => by omega, fun r _ h => by omega⟩

variable {m}

/-- The tile a quantising point reads. -/
theorem Inv.read {c : Dev nD} {t : Fin cfg0.N} {Y : Vec F S9x512x2304 .f32} {R : Vec F S512x128 .f32} {I : Vec F S512x1 .f32} (h : Inv m c t.val Y R I) (ht : 9 ≤ t.val) :
    codesOf (slot Y (col t)) I = codesAt m c t.val := by
  have h45 := lt45 t
  have h1 := h.tiles (t.val - 9) (by omega) (by omega) (by omega)
  have h2 := h.inv (t.val / 9 - 1) (by omega) (by omega) (by omega)
  have hc : col t = ⟨(t.val - 9) % 9, Nat.mod_lt _ (by decide)⟩ := Fin.ext (by show t.val % 9 = (t.val - 9) % 9; omega)
  rw [hc, h1, h2]; rfl

/-- The row maximum after a multiplying point. -/
theorem Inv.step_max {c : Dev nD} {t : Fin cfg0.N} {Y : Vec F S9x512x2304 .f32} {R : Vec F S512x128 .f32} {I : Vec F S512x1 .f32} (h : Inv m c t.val Y R I) (ht : t.val < 36) :
    rowmax (grid0.coords t) (bx m c t) (bw m c t) (bxs m c t) (bws m c t) R = maxAt m c t.val := by
  have hp := pt_val t
  rcases Nat.eq_zero_or_pos t.val with h0 | h0
  · rw [rowmax_first (grid0.coords t) (by rw [coord1, h0]) _ _ _ _ R (maxBefore m c)]
    rw [h0]
    show _ = maxStep m c 0 _
    unfold maxStep
    rw [← h0, hp]
  · rw [h.rmax h0 (by omega)]
    obtain ⟨n, hn⟩ : ∃ n, t.val = n + 1 := ⟨t.val - 1, by omega⟩
    rw [hn] at hp ⊢
    show _ = maxStep m c (n + 1) _
    unfold maxStep
    rw [hp]; rfl

/-- A point's tile from its four blocks. -/
theorem tileAt_eq (c : Dev nD) (t : Fin cfg0.N) : tileAt m c t.val = yslot (bx m c t) (bw m c t) (bxs m c t) (bws m c t) := by
  unfold tileAt; rw [pt_val]

/-- A multiplying point that does not end its row. -/
theorem Inv.mul {c : Dev nD} {t : Fin cfg0.N} {Y : Vec F S9x512x2304 .f32} {R : Vec F S512x128 .f32} {I : Vec F S512x1 .f32} (h : Inv m c t.val Y R I) (ht : t.val < 36)
    (h8 : t.val % 9 ≠ 8) :
    Inv m c (t.val + 1) (setSlot Y (col t) (yslot (bx m c t) (bw m c t) (bxs m c t) (bws m c t)))
      (rowmax (grid0.coords t) (bx m c t) (bw m c t) (bxs m c t) (bws m c t) R) I where
  tiles k hk hk' hc := by
    by_cases e : k = t.val
    · subst e; rw [tileAt_eq]; exact slot_setSlot_same _ (col t) _
    · rw [slot_setSlot_ne _ _ _ (fun e' => by have := congrArg Fin.val e'; simp only [col] at this; omega)]
      exact h.tiles k (by omega) hk' (by omega)
  rmax _ _ := h.step_max ht
  inv r hr h1 h2 := h.inv r hr (by omega) (by omega)

/-- A multiplying point that ends its row. -/
theorem Inv.mul_last {c : Dev nD} {t : Fin cfg0.N} {Y : Vec F S9x512x2304 .f32} {R : Vec F S512x128 .f32} {I : Vec F S512x1 .f32} (h : Inv m c t.val Y R I) (ht : t.val < 36)
    (h8 : t.val % 9 = 8) :
    Inv m c (t.val + 1) (setSlot Y (col t) (yslot (bx m c t) (bw m c t) (bxs m c t) (bws m c t)))
      (rowmax (grid0.coords t) (bx m c t) (bw m c t) (bxs m c t) (bws m c t) R)
      (invOf (rowmax (grid0.coords t) (bx m c t) (bw m c t) (bxs m c t) (bws m c t) R)) where
  tiles k hk hk' hc := by
    by_cases e : k = t.val
    · subst e; rw [tileAt_eq]; exact slot_setSlot_same _ (col t) _
    · rw [slot_setSlot_ne _ _ _ (fun e' => by have := congrArg Fin.val e'; simp only [col] at this; omega)]
      exact h.tiles k (by omega) hk' (by omega)
  rmax _ _ := h.step_max ht
  inv r hr h1 h2 := by
    rw [h.step_max ht]
    have : t.val = 9 * r + 8 := by omega
    rw [this]; rfl

/-- The scale a row's last point stores. -/
theorem Inv.scale {c : Dev nD} {t : Fin cfg0.N} {Y : Vec F S9x512x2304 .f32} {R : Vec F S512x128 .f32} {I : Vec F S512x1 .f32} (h : Inv m c t.val Y R I) (ht : t.val < 36)
    (h8 : t.val % 9 = 8) :
    scaleOf (rowmax (grid0.coords t) (bx m c t) (bw m c t) (bxs m c t) (bws m c t) R) = scaleAt m c (min (t.val / 9) 3) := by
  rw [h.step_max ht]
  have : t.val = 9 * min (t.val / 9) 3 + 8 := by omega
  unfold scaleAt; rw [← this]

/-- A draining point changes nothing in the scratch. -/
theorem Inv.drain {c : Dev nD} {t : Fin cfg0.N} {Y : Vec F S9x512x2304 .f32} {R : Vec F S512x128 .f32} {I : Vec F S512x1 .f32} (h : Inv m c t.val Y R I) (ht : 36 ≤ t.val) :
    Inv m c (t.val + 1) Y R I where
  tiles k hk hk' hc := h.tiles k (by omega) hk' (by omega)
  rmax _ h' := by omega
  inv r hr h1 h2 := h.inv r hr (by have := lt45 t; omega) (by omega)

end Cert.Kernel.Hand

end
-- ==== Proof.Kernel.Data.lean ====
/-
  The proof data of the pipeline: what every buffer holds before and after the body at each point.
-/
module

public import proofs.«01_k».proof.Proof.Kernel.State

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The pipeline's proof data -/

/-- Before point `n` the core holds the scratch at contents the invariant describes, and its generator register. -/
def PhiN (c : Dev nD) (n : ℕ) : sProp 𝕄 :=
  iprop(∃ (Y : Vec F S9x512x2304 .f32) (R : Vec F S512x128 .f32) (I : Vec F S512x1 .f32), ⌜Inv m c n Y R I⌝
    ∗ owns (c : Thread nD τ) (Memref.whole cc0_scratch0) fullShare Y
    ∗ owns (c : Thread nD τ) (Memref.whole cc0_scratch1) fullShare R
    ∗ owns (c : Thread nD τ) (Memref.whole cc0_scratch2) fullShare I ∗ (∃ r, prngReg c r))

/-- The proof data: the arrays as the region finds them, each input's buffer at its block, the scale's buffer at its row's
    scale, the codes' at the codes of the tile nine points before; the invariant `PhiN`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => scaleAt m c (min (t.val / 9) 3)
    | ⟨5, _⟩ => codesAt m c t.val
  Φ t := PhiN m c t.val
  q _ := fullShare
  owed _ := 0

/-- The arrays at the start. -/
theorem A_eq (c : Dev nD) (w : Fin cfg0.W) : (dats m 0 c).A w = V m c (Pipeline.arrRef spec0 w) := by
  dsimp only [dats]

/-- The scratch invariant before a point. -/
theorem Phi_castSucc (c : Dev nD) (t : Fin cfg0.N) : (dats m 0 c).Φ t.castSucc = PhiN m c t.val := by
  dsimp only [dats]; rfl
/-- The scratch invariant after a point. -/
theorem Phi_succ (c : Dev nD) (t : Fin cfg0.N) : (dats m 0 c).Φ t.succ = PhiN m c (t.val + 1) := by
  dsimp only [dats]; rfl

/-- What each window holds after a point: an input its block, the results their own. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = scaleAt m c (min (t.val / 9) 3) := by dsimp only [dats]
theorem after0_5 (c : Dev nD) (t : Fin cfg0.N) : (dats m 0 c).after 5 t = codesAt m c t.val := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- In the draining row the scale's buffer holds the last row's scale all along. -/
theorem before4 (c : Dev nD) (t : Fin cfg0.N) (h36 : 36 ≤ t.val) (d) : (dats m 0 c).before 4 t d = (dats m 0 c).after 4 t := by
  rw [(dats m 0 c).before_out_traj 4 rfl (fun _ _ => rfl) (fun t ht hi hf => by
    rw [fresh4] at hf
    have h : 36 ≤ t.val := by have := of_decide_eq_false hf; omega
    rw [after0_4, after0_4]
    have e : min (t.val / 9) 3 = min ((t.val - 1) / 9) 3 := by omega
    rw [e]) t.val t rfl d]
  rw [fresh4, decide_eq_false (by omega), if_neg Bool.false_ne_true, after0_4, after0_4]
  have e : min ((t.val - 1) / 9) 3 = min (t.val / 9) 3 := by omega
  show scaleAt m c (min ((t.val - 1) / 9) 3) = _
  rw [e]

/-! ## What each window's buffer is left with -/

theorem leaves0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem leaves1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem leaves2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem leaves3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]

/-- The scale's window holds the scales at the end of a multiplying row. -/
theorem live4 (c : Dev nD) (t : Fin cfg0.N) (h : t.val < 36 ∧ t.val % 9 = 8) :
    (dats m 0 c).leavesExact 4 t = owns (c : Thread nD τ) (st0_4 t) fullShare ((dats m 0 c).after 4 t) := by
  unfold Dat.leavesExact
  rw [show cfg0.idle 4 (cfg0.grid.coords t) = false from (idle4 t).trans (by rw [decide_eq_true h]; rfl)]
/-- The scale's window still holds the last scales at the end of the draining row. -/
theorem flush4_eq (c : Dev nD) (t : Fin cfg0.N) (h36 : 36 ≤ t.val) (h8 : t.val % 9 = 8) :
    (dats m 0 c).leavesExact 4 t = owns (c : Thread nD τ) (st0_4 t) fullShare ((dats m 0 c).after 4 t) := by
  unfold Dat.leavesExact
  rw [show cfg0.idle 4 (cfg0.grid.coords t) = true from (idle4 t).trans (by rw [decide_eq_false (by omega)]; rfl),
    show (cfg0.win 4).flush t = true from (flush4 t).trans (decide_eq_true (by omega))]
/-- The scale's window is untouched inside a row. -/
theorem idle4_eq (c : Dev nD) (t : Fin cfg0.N) (h8 : t.val % 9 ≠ 8) :
    (dats m 0 c).leavesExact 4 t = iprop(∃ d, owns (c : Thread nD τ) (st0_4 t) fullShare ((dats m 0 c).before 4 t d)) :=
  Dat.leavesExact_idle (dats m 0 c) 4 t ((idle4 t).trans (by rw [decide_eq_false (by omega)]; rfl)) ((flush4 t).trans (decide_eq_false (by omega)))
/-- The codes' window holds the codes from the second row on. -/
theorem live5 (c : Dev nD) (t : Fin cfg0.N) (h : 9 ≤ t.val) :
    (dats m 0 c).leavesExact 5 t = owns (c : Thread nD τ) (st0_5 t) fullShare ((dats m 0 c).after 5 t) := by
  unfold Dat.leavesExact
  rw [show cfg0.idle 5 (cfg0.grid.coords t) = false from (idle5 t).trans (decide_eq_false (by omega))]
/-- The codes' window is untouched in the first row. -/
theorem idle5_eq (c : Dev nD) (t : Fin cfg0.N) (h : t.val < 9) :
    (dats m 0 c).leavesExact 5 t = iprop(∃ d, owns (c : Thread nD τ) (st0_5 t) fullShare ((dats m 0 c).before 5 t d)) :=
  Dat.leavesExact_idle (dats m 0 c) 5 t ((idle5 t).trans (decide_eq_true h)) ((flush5 t).trans (decide_eq_false (by omega)))

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

end Cert.Kernel.Hand

end
-- ==== Proof.Kernel.RunA.lean ====
/-
  The kernel's body at a point of the first row of tiles, not its last: multiply,
  from any contents of its buffers to the contents it leaves.
-/
module

public import proofs.«01_k».proof.Proof.Kernel.Steps

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the first row of tiles, not its last: multiply. -/
theorem runA (c : Dev nD) (i : grid0.Coords) (j : Fin 9)
    (arg2 : Memref sig .tc .vmem S512x2432 .fp8e4m3) (harg2 : arg2.IsWhole) (arg3 : Memref sig .tc .vmem S512x1 .f32) (harg3 : arg3.IsWhole)
    (arg4 : Memref sig .tc .vmem S2432x2304 .fp8e4m3) (harg4 : arg4.IsWhole) (arg5 : Memref sig .tc .vmem S1x2304 .f32) (harg5 : arg5.IsWhole)
    (arg6 : Memref sig .tc .vmem S512x1 .f32) (harg6 : arg6.IsWhole) (arg7 : Memref sig .tc .vmem S512x2304 .fp8e4m3) (harg7 : arg7.IsWhole)
    (arg8 : Memref sig .tc .vmem S9x512x2304 .f32) (harg8 : arg8.IsWhole) (arg9 : Memref sig .tc .vmem S512x128 .f32) (harg9 : arg9.IsWhole)
    (arg10 : Memref sig .tc .vmem S512x1 .f32) (harg10 : arg10.IsWhole)
    (h1 : k0_cond1 i = 1#1) (h2 : ¬ k0_cond2 i = 1#1) (h3 : ¬ k0_cond3 i = 1#1) (h4 : ¬ k0_cond4 i = 1#1) (ho : k0_off1 i = ![j.val, 0, 0])
    (x : Vec F S512x2432 .fp8e4m3) (xs : Vec F S512x1 .f32) (w : Vec F S2432x2304 .fp8e4m3) (ws : Vec F S1x2304 .f32)
    (s : Vec F S512x1 .f32) (q : Vec F S512x2304 .fp8e4m3)
    (Y : Vec F S9x512x2304 .f32) (R : Vec F S512x128 .f32) (I : Vec F S512x1 .f32) (E : Set ℕ) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare q ∗ owns (c : Thread nD τ) arg8 fullShare Y ∗ owns (c : Thread nD τ) arg9 fullShare R ∗ owns (c : Thread nD τ) arg10 fullShare I
        ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare q ∗ owns (c : Thread nD τ) arg8 fullShare (setSlot Y j (yslot x w xs ws)) ∗ owns (c : Thread nD τ) arg9 fullShare (rowmax i x w xs ws R) ∗ owns (c : Thread nD τ) arg10 fullShare I) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | sl_exact h1 | sl_exact h2 | sl_exact h3 | sl_exact h4)
  sl_step
  dsimp only
  have e2 : View.readAt (Elt F) arg2.view (Rect.unit ![0, 0] ![512, 2432] inb_S512x2432_S512x2432_0_0).toLoadRect f2 = x := (View.readAt_full arg2.view f2 inb_S512x2432_S512x2432_0_0).trans hf2
  have e3 : View.readAt (Elt F) arg3.view (Rect.unit ![0, 0] ![512, 1] inb_S512x1_S512x1_0_0).toLoadRect f3 = xs := (View.readAt_full arg3.view f3 inb_S512x1_S512x1_0_0).trans hf3
  have e4 : View.readAt (Elt F) arg4.view (Rect.unit ![0, 0] ![2432, 2304] inb_S2432x2304_S2432x2304_0_0).toLoadRect f4 = w := (View.readAt_full arg4.view f4 inb_S2432x2304_S2432x2304_0_0).trans hf4
  have e5 : View.readAt (Elt F) arg5.view (Rect.unit ![0, 0] ![1, 2304] inb_S1x2304_S1x2304_0_0).toLoadRect f5 = ws := (View.readAt_full arg5.view f5 inb_S1x2304_S1x2304_0_0).trans hf5
  have e8 : ∀ inb, View.readAt (Elt F) arg8.view (Rect.unit (k0_off1 i) ![1, 512, 2304] inb).toLoadRect f8 = slot Y j :=
    fun inb => (View.readAt_unit arg8.view f8 inb ho (slot_inb j)).trans (by rw [hf8]; rfl)
  have e9 : View.readAt (Elt F) arg9.view (Rect.unit ![0, 0] ![512, 128] inb_S512x128_S512x128_0_0).toLoadRect f9 = R := (View.readAt_full arg9.view f9 inb_S512x128_S512x128_0_0).trans hf9
  have e10 : View.readAt (Elt F) arg10.view (Rect.unit ![0, 0] ![512, 1] inb_S512x1_S512x1_0_0).toLoadRect f10 = I := (View.readAt_full arg10.view f10 inb_S512x1_S512x1_0_0).trans hf10
  simp only [e2, e3, e4, e5, e9, e10]
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact (View.read_writes_cons_put arg8.view f8 _ _ [] ho).trans (by rw [View.writes_nil, hf8]; rfl)
  isplitl [H9]
  · iexists _; isplitr
    swap; · iexact H9
    ipureintro; exact View.read_writes_full arg9.view f9 inb_S512x128_S512x128_0_0 _ _
  iexists _; isplitr
  swap; · iexact H10
  ipureintro; exact hf10

end Cert.Kernel.Hand

end
-- ==== Proof.Kernel.RunB.lean ====
/-
  The kernel's body at the last point of the first row of tiles: multiply, then the row's scale,
  from any contents of its buffers to the contents it leaves.
-/
module

public import proofs.«01_k».proof.Proof.Kernel.Steps

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point of the first row of tiles: multiply, then the row's scale. -/
theorem runB (c : Dev nD) (i : grid0.Coords) (j : Fin 9)
    (arg2 : Memref sig .tc .vmem S512x2432 .fp8e4m3) (harg2 : arg2.IsWhole) (arg3 : Memref sig .tc .vmem S512x1 .f32) (harg3 : arg3.IsWhole)
    (arg4 : Memref sig .tc .vmem S2432x2304 .fp8e4m3) (harg4 : arg4.IsWhole) (arg5 : Memref sig .tc .vmem S1x2304 .f32) (harg5 : arg5.IsWhole)
    (arg6 : Memref sig .tc .vmem S512x1 .f32) (harg6 : arg6.IsWhole) (arg7 : Memref sig .tc .vmem S512x2304 .fp8e4m3) (harg7 : arg7.IsWhole)
    (arg8 : Memref sig .tc .vmem S9x512x2304 .f32) (harg8 : arg8.IsWhole) (arg9 : Memref sig .tc .vmem S512x128 .f32) (harg9 : arg9.IsWhole)
    (arg10 : Memref sig .tc .vmem S512x1 .f32) (harg10 : arg10.IsWhole)
    (h1 : k0_cond1 i = 1#1) (h2 : ¬ k0_cond2 i = 1#1) (h3 : ¬ k0_cond3 i = 1#1) (h4 : k0_cond4 i = 1#1) (ho : k0_off1 i = ![j.val, 0, 0])
    (x : Vec F S512x2432 .fp8e4m3) (xs : Vec F S512x1 .f32) (w : Vec F S2432x2304 .fp8e4m3) (ws : Vec F S1x2304 .f32)
    (s : Vec F S512x1 .f32) (q : Vec F S512x2304 .fp8e4m3)
    (Y : Vec F S9x512x2304 .f32) (R : Vec F S512x128 .f32) (I : Vec F S512x1 .f32) (E : Set ℕ) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare q ∗ owns (c : Thread nD τ) arg8 fullShare Y ∗ owns (c : Thread nD τ) arg9 fullShare R ∗ owns (c : Thread nD τ) arg10 fullShare I
        ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare (scaleOf (rowmax i x w xs ws R)) ∗ owns (c : Thread nD τ) arg7 fullShare q ∗ owns (c : Thread nD τ) arg8 fullShare (setSlot Y j (yslot x w xs ws)) ∗ owns (c : Thread nD τ) arg9 fullShare (rowmax i x w xs ws R) ∗ owns (c : Thread nD τ) arg10 fullShare (invOf (rowmax i x w xs ws R))) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | sl_exact h1 | sl_exact h2 | sl_exact h3 | sl_exact h4)
  sl_step
  dsimp only
  have e2 : View.readAt (Elt F) arg2.view (Rect.unit ![0, 0] ![512, 2432] inb_S512x2432_S512x2432_0_0).toLoadRect f2 = x := (View.readAt_full arg2.view f2 inb_S512x2432_S512x2432_0_0).trans hf2
  have e3 : View.readAt (Elt F) arg3.view (Rect.unit ![0, 0] ![512, 1] inb_S512x1_S512x1_0_0).toLoadRect f3 = xs := (View.readAt_full arg3.view f3 inb_S512x1_S512x1_0_0).trans hf3
  have e4 : View.readAt (Elt F) arg4.view (Rect.unit ![0, 0] ![2432, 2304] inb_S2432x2304_S2432x2304_0_0).toLoadRect f4 = w := (View.readAt_full arg4.view f4 inb_S2432x2304_S2432x2304_0_0).trans hf4
  have e5 : View.readAt (Elt F) arg5.view (Rect.unit ![0, 0] ![1, 2304] inb_S1x2304_S1x2304_0_0).toLoadRect f5 = ws := (View.readAt_full arg5.view f5 inb_S1x2304_S1x2304_0_0).trans hf5
  have e8 : ∀ inb, View.readAt (Elt F) arg8.view (Rect.unit (k0_off1 i) ![1, 512, 2304] inb).toLoadRect f8 = slot Y j :=
    fun inb => (View.readAt_unit arg8.view f8 inb ho (slot_inb j)).trans (by rw [hf8]; rfl)
  have e9 : View.readAt (Elt F) arg9.view (Rect.unit ![0, 0] ![512, 128] inb_S512x128_S512x128_0_0).toLoadRect f9 = R := (View.readAt_full arg9.view f9 inb_S512x128_S512x128_0_0).trans hf9
  have e10 : View.readAt (Elt F) arg10.view (Rect.unit ![0, 0] ![512, 1] inb_S512x1_S512x1_0_0).toLoadRect f10 = I := (View.readAt_full arg10.view f10 inb_S512x1_S512x1_0_0).trans hf10
  have eH : runB.sl.H9_1 c i arg2 arg3 arg4 arg5 arg9 f2 f3 f4 f5 f9 = [⟨Rect.unit ![0, 0] S512x128.size inb_S512x128_S512x128_0_0, rowmax i x w xs ws R⟩] := by
    unfold runB.sl.H9_1
    simp only [e2, e3, e4, e5, e9]
    done
  have e16 : runB.sl.v16 c i arg2 arg3 arg4 arg5 arg9 f2 f3 f4 f5 f9 = rowmax i x w xs ws R := by
    unfold runB.sl.v16
    rw [eH]
    exact View.readCov_full arg9.view _ _ _ _
  simp only [e2, e3, e4, e5, e10, eH]
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact (View.read_writes_full arg6.view f6 inb_S512x1_S512x1_0_0 _ _).trans (congrArg scaleOf e16)
  isplitl [H7]
  · iexists _; isplitr
    swap; · iexact H7
    ipureintro; exact hf7
  isplitl [H8]
  · iexists _; isplitr
    swap; · iexact H8
    ipureintro; exact (View.read_writes_cons_put arg8.view f8 _ _ [] ho).trans (by rw [View.writes_nil, hf8]; rfl)
  isplitl [H9]
  · iexists _; isplitr
    swap; · iexact H9
    ipureintro; exact View.read_writes_full arg9.view f9 inb_S512x128_S512x128_0_0 _ _
  iexists _; isplitr
  swap; · iexact H10
  ipureintro; exact (View.read_writes_full arg10.view f10 inb_S512x1_S512x1_0_0 _ _).trans (congrArg invOf e16)

end Cert.Kernel.Hand

end
-- ==== Proof.Kernel.RunC.lean ====
/-
  The kernel's body at a point of a middle row of tiles, not its last: quantise the row before, then multiply,
  from any contents of its buffers to the contents it leaves.
-/
module

public import proofs.«01_k».proof.Proof.Kernel.Steps

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of a middle row of tiles, not its last: quantise the row before, then multiply. -/
theorem runC (c : Dev nD) (i : grid0.Coords) (j : Fin 9)
    (arg2 : Memref sig .tc .vmem S512x2432 .fp8e4m3) (harg2 : arg2.IsWhole) (arg3 : Memref sig .tc .vmem S512x1 .f32) (harg3 : arg3.IsWhole)
    (arg4 : Memref sig .tc .vmem S2432x2304 .fp8e4m3) (harg4 : arg4.IsWhole) (arg5 : Memref sig .tc .vmem S1x2304 .f32) (harg5 : arg5.IsWhole)
    (arg6 : Memref sig .tc .vmem S512x1 .f32) (harg6 : arg6.IsWhole) (arg7 : Memref sig .tc .vmem S512x2304 .fp8e4m3) (harg7 : arg7.IsWhole)
    (arg8 : Memref sig .tc .vmem S9x512x2304 .f32) (harg8 : arg8.IsWhole) (arg9 : Memref sig .tc .vmem S512x128 .f32) (harg9 : arg9.IsWhole)
    (arg10 : Memref sig .tc .vmem S512x1 .f32) (harg10 : arg10.IsWhole)
    (h1 : ¬ k0_cond1 i = 1#1) (h2 : k0_cond2 i = 1#1) (h3 : ¬ k0_cond3 i = 1#1) (h4 : ¬ k0_cond4 i = 1#1) (ho : k0_off2 i = ![j.val, 0, 0])
    (x : Vec F S512x2432 .fp8e4m3) (xs : Vec F S512x1 .f32) (w : Vec F S2432x2304 .fp8e4m3) (ws : Vec F S1x2304 .f32)
    (s : Vec F S512x1 .f32) (q : Vec F S512x2304 .fp8e4m3)
    (Y : Vec F S9x512x2304 .f32) (R : Vec F S512x128 .f32) (I : Vec F S512x1 .f32) (E : Set ℕ) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare q ∗ owns (c : Thread nD τ) arg8 fullShare Y ∗ owns (c : Thread nD τ) arg9 fullShare R ∗ owns (c : Thread nD τ) arg10 fullShare I
        ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare (codesOf (slot Y j) I) ∗ owns (c : Thread nD τ) arg8 fullShare (setSlot Y j (yslot x w xs ws)) ∗ owns (c : Thread nD τ) arg9 fullShare (rowmax i x w xs ws R) ∗ owns (c : Thread nD τ) arg10 fullShare I) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | sl_exact h1 | sl_exact h2 | sl_exact h3 | sl_exact h4)
  sl_step
  dsimp only
  have e2 : View.readAt (Elt F) arg2.view (Rect.unit ![0, 0] ![512, 2432] inb_S512x2432_S512x2432_0_0).toLoadRect f2 = x := (View.readAt_full arg2.view f2 inb_S512x2432_S512x2432_0_0).trans hf2
  have e3 : View.readAt (Elt F) arg3.view (Rect.unit ![0, 0] ![512, 1] inb_S512x1_S512x1_0_0).toLoadRect f3 = xs := (View.readAt_full arg3.view f3 inb_S512x1_S512x1_0_0).trans hf3
  have e4 : View.readAt (Elt F) arg4.view (Rect.unit ![0, 0] ![2432, 2304] inb_S2432x2304_S2432x2304_0_0).toLoadRect f4 = w := (View.readAt_full arg4.view f4 inb_S2432x2304_S2432x2304_0_0).trans hf4
  have e5 : View.readAt (Elt F) arg5.view (Rect.unit ![0, 0] ![1, 2304] inb_S1x2304_S1x2304_0_0).toLoadRect f5 = ws := (View.readAt_full arg5.view f5 inb_S1x2304_S1x2304_0_0).trans hf5
  have e8 : ∀ inb, View.readAt (Elt F) arg8.view (Rect.unit (k0_off2 i) ![1, 512, 2304] inb).toLoadRect f8 = slot Y j :=
    fun inb => (View.readAt_unit arg8.view f8 inb ho (slot_inb j)).trans (by rw [hf8]; rfl)
  have e9 : View.readAt (Elt F) arg9.view (Rect.unit ![0, 0] ![512, 128] inb_S512x128_S512x128_0_0).toLoadRect f9 = R := (View.readAt_full arg9.view f9 inb_S512x128_S512x128_0_0).trans hf9
  have e10 : View.readAt (Elt F) arg10.view (Rect.unit ![0, 0] ![512, 1] inb_S512x1_S512x1_0_0).toLoadRect f10 = I := (View.readAt_full arg10.view f10 inb_S512x1_S512x1_0_0).trans hf10
  simp only [e2, e3, e4, e5, e9, e10]
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact (View.read_writes_full arg7.view f7 inb_S512x2304_S512x2304_0_0 _ _).trans (congrArg (fun v => codesOf v I) (e8 _))
  isplitl [H8]
  · iexists _; isplitr
    swap; · iexact H8
    ipureintro; exact (View.read_writes_cons_put arg8.view f8 _ _ [] ho).trans (by rw [View.writes_nil, hf8]; rfl)
  isplitl [H9]
  · iexists _; isplitr
    swap; · iexact H9
    ipureintro; exact View.read_writes_full arg9.view f9 inb_S512x128_S512x128_0_0 _ _
  iexists _; isplitr
  swap; · iexact H10
  ipureintro; exact hf10

end Cert.Kernel.Hand

end
-- ==== Proof.Kernel.RunD.lean ====
/-
  The kernel's body at the last point of a middle row of tiles: quantise the row before, multiply, then the row's scale,
  from any contents of its buffers to the contents it leaves.
-/
module

public import proofs.«01_k».proof.Proof.Kernel.Steps

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point of a middle row of tiles: quantise the row before, multiply, then the row's scale. -/
theorem runD (c : Dev nD) (i : grid0.Coords) (j : Fin 9)
    (arg2 : Memref sig .tc .vmem S512x2432 .fp8e4m3) (harg2 : arg2.IsWhole) (arg3 : Memref sig .tc .vmem S512x1 .f32) (harg3 : arg3.IsWhole)
    (arg4 : Memref sig .tc .vmem S2432x2304 .fp8e4m3) (harg4 : arg4.IsWhole) (arg5 : Memref sig .tc .vmem S1x2304 .f32) (harg5 : arg5.IsWhole)
    (arg6 : Memref sig .tc .vmem S512x1 .f32) (harg6 : arg6.IsWhole) (arg7 : Memref sig .tc .vmem S512x2304 .fp8e4m3) (harg7 : arg7.IsWhole)
    (arg8 : Memref sig .tc .vmem S9x512x2304 .f32) (harg8 : arg8.IsWhole) (arg9 : Memref sig .tc .vmem S512x128 .f32) (harg9 : arg9.IsWhole)
    (arg10 : Memref sig .tc .vmem S512x1 .f32) (harg10 : arg10.IsWhole)
    (h1 : ¬ k0_cond1 i = 1#1) (h2 : k0_cond2 i = 1#1) (h3 : ¬ k0_cond3 i = 1#1) (h4 : k0_cond4 i = 1#1) (ho : k0_off2 i = ![j.val, 0, 0])
    (x : Vec F S512x2432 .fp8e4m3) (xs : Vec F S512x1 .f32) (w : Vec F S2432x2304 .fp8e4m3) (ws : Vec F S1x2304 .f32)
    (s : Vec F S512x1 .f32) (q : Vec F S512x2304 .fp8e4m3)
    (Y : Vec F S9x512x2304 .f32) (R : Vec F S512x128 .f32) (I : Vec F S512x1 .f32) (E : Set ℕ) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare q ∗ owns (c : Thread nD τ) arg8 fullShare Y ∗ owns (c : Thread nD τ) arg9 fullShare R ∗ owns (c : Thread nD τ) arg10 fullShare I
        ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare (scaleOf (rowmax i x w xs ws R)) ∗ owns (c : Thread nD τ) arg7 fullShare (codesOf (slot Y j) I) ∗ owns (c : Thread nD τ) arg8 fullShare (setSlot Y j (yslot x w xs ws)) ∗ owns (c : Thread nD τ) arg9 fullShare (rowmax i x w xs ws R) ∗ owns (c : Thread nD τ) arg10 fullShare (invOf (rowmax i x w xs ws R))) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | sl_exact h1 | sl_exact h2 | sl_exact h3 | sl_exact h4)
  sl_step
  dsimp only
  have e2 : View.readAt (Elt F) arg2.view (Rect.unit ![0, 0] ![512, 2432] inb_S512x2432_S512x2432_0_0).toLoadRect f2 = x := (View.readAt_full arg2.view f2 inb_S512x2432_S512x2432_0_0).trans hf2
  have e3 : View.readAt (Elt F) arg3.view (Rect.unit ![0, 0] ![512, 1] inb_S512x1_S512x1_0_0).toLoadRect f3 = xs := (View.readAt_full arg3.view f3 inb_S512x1_S512x1_0_0).trans hf3
  have e4 : View.readAt (Elt F) arg4.view (Rect.unit ![0, 0] ![2432, 2304] inb_S2432x2304_S2432x2304_0_0).toLoadRect f4 = w := (View.readAt_full arg4.view f4 inb_S2432x2304_S2432x2304_0_0).trans hf4
  have e5 : View.readAt (Elt F) arg5.view (Rect.unit ![0, 0] ![1, 2304] inb_S1x2304_S1x2304_0_0).toLoadRect f5 = ws := (View.readAt_full arg5.view f5 inb_S1x2304_S1x2304_0_0).trans hf5
  have e8 : ∀ inb, View.readAt (Elt F) arg8.view (Rect.unit (k0_off2 i) ![1, 512, 2304] inb).toLoadRect f8 = slot Y j :=
    fun inb => (View.readAt_unit arg8.view f8 inb ho (slot_inb j)).trans (by rw [hf8]; rfl)
  have e9 : View.readAt (Elt F) arg9.view (Rect.unit ![0, 0] ![512, 128] inb_S512x128_S512x128_0_0).toLoadRect f9 = R := (View.readAt_full arg9.view f9 inb_S512x128_S512x128_0_0).trans hf9
  have e10 : View.readAt (Elt F) arg10.view (Rect.unit ![0, 0] ![512, 1] inb_S512x1_S512x1_0_0).toLoadRect f10 = I := (View.readAt_full arg10.view f10 inb_S512x1_S512x1_0_0).trans hf10
  have eH : runD.sl.H9_1 c i arg2 arg3 arg4 arg5 arg9 f2 f3 f4 f5 f9 = [⟨Rect.unit ![0, 0] S512x128.size inb_S512x128_S512x128_0_0, rowmax i x w xs ws R⟩] := by
    unfold runD.sl.H9_1
    simp only [e2, e3, e4, e5, e9]
    rfl
  have e16 : runD.sl.v16 c i arg2 arg3 arg4 arg5 arg9 f2 f3 f4 f5 f9 = rowmax i x w xs ws R := by
    unfold runD.sl.v16
    rw [eH]
    exact View.readCov_full arg9.view _ _ _ _
  simp only [e2, e3, e4, e5, e10, eH]
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact (View.read_writes_full arg6.view f6 inb_S512x1_S512x1_0_0 _ _).trans (congrArg scaleOf e16)
  isplitl [H7]
  · iexists _; isplitr
    swap; · iexact H7
    ipureintro; exact (View.read_writes_full arg7.view f7 inb_S512x2304_S512x2304_0_0 _ _).trans (congrArg (fun v => codesOf v I) (e8 _))
  isplitl [H8]
  · iexists _; isplitr
    swap; · iexact H8
    ipureintro; exact (View.read_writes_cons_put arg8.view f8 _ _ [] ho).trans (by rw [View.writes_nil, hf8]; rfl)
  isplitl [H9]
  · iexists _; isplitr
    swap; · iexact H9
    ipureintro; exact View.read_writes_full arg9.view f9 inb_S512x128_S512x128_0_0 _ _
  iexists _; isplitr
  swap; · iexact H10
  ipureintro; exact (View.read_writes_full arg10.view f10 inb_S512x1_S512x1_0_0 _ _).trans (congrArg invOf e16)

end Cert.Kernel.Hand

end
-- ==== Proof.Kernel.RunE.lean ====
/-
  The kernel's body at a point of the draining row: quantise the last row of tiles,
  from any contents of its buffers to the contents it leaves.
-/
module

public import proofs.«01_k».proof.Proof.Kernel.Steps

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the draining row: quantise the last row of tiles. -/
theorem runE (c : Dev nD) (i : grid0.Coords) (j : Fin 9)
    (arg2 : Memref sig .tc .vmem S512x2432 .fp8e4m3) (harg2 : arg2.IsWhole) (arg3 : Memref sig .tc .vmem S512x1 .f32) (harg3 : arg3.IsWhole)
    (arg4 : Memref sig .tc .vmem S2432x2304 .fp8e4m3) (harg4 : arg4.IsWhole) (arg5 : Memref sig .tc .vmem S1x2304 .f32) (harg5 : arg5.IsWhole)
    (arg6 : Memref sig .tc .vmem S512x1 .f32) (harg6 : arg6.IsWhole) (arg7 : Memref sig .tc .vmem S512x2304 .fp8e4m3) (harg7 : arg7.IsWhole)
    (arg8 : Memref sig .tc .vmem S9x512x2304 .f32) (harg8 : arg8.IsWhole) (arg9 : Memref sig .tc .vmem S512x128 .f32) (harg9 : arg9.IsWhole)
    (arg10 : Memref sig .tc .vmem S512x1 .f32) (harg10 : arg10.IsWhole)
    (h1 : ¬ k0_cond1 i = 1#1) (h2 : ¬ k0_cond2 i = 1#1) (h3 : k0_cond3 i = 1#1) (h4 : ¬ k0_cond4 i = 1#1) (ho : k0_off3 i = ![j.val, 0, 0])
    (x : Vec F S512x2432 .fp8e4m3) (xs : Vec F S512x1 .f32) (w : Vec F S2432x2304 .fp8e4m3) (ws : Vec F S1x2304 .f32)
    (s : Vec F S512x1 .f32) (q : Vec F S512x2304 .fp8e4m3)
    (Y : Vec F S9x512x2304 .f32) (R : Vec F S512x128 .f32) (I : Vec F S512x1 .f32) (E : Set ℕ) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare q ∗ owns (c : Thread nD τ) arg8 fullShare Y ∗ owns (c : Thread nD τ) arg9 fullShare R ∗ owns (c : Thread nD τ) arg10 fullShare I
        ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare (codesOf (slot Y j) I) ∗ owns (c : Thread nD τ) arg8 fullShare Y ∗ owns (c : Thread nD τ) arg9 fullShare R ∗ owns (c : Thread nD τ) arg10 fullShare I) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | sl_exact h1 | sl_exact h2 | sl_exact h3 | sl_exact h4)
  sl_step
  dsimp only
  have e2 : View.readAt (Elt F) arg2.view (Rect.unit ![0, 0] ![512, 2432] inb_S512x2432_S512x2432_0_0).toLoadRect f2 = x := (View.readAt_full arg2.view f2 inb_S512x2432_S512x2432_0_0).trans hf2
  have e3 : View.readAt (Elt F) arg3.view (Rect.unit ![0, 0] ![512, 1] inb_S512x1_S512x1_0_0).toLoadRect f3 = xs := (View.readAt_full arg3.view f3 inb_S512x1_S512x1_0_0).trans hf3
  have e4 : View.readAt (Elt F) arg4.view (Rect.unit ![0, 0] ![2432, 2304] inb_S2432x2304_S2432x2304_0_0).toLoadRect f4 = w := (View.readAt_full arg4.view f4 inb_S2432x2304_S2432x2304_0_0).trans hf4
  have e5 : View.readAt (Elt F) arg5.view (Rect.unit ![0, 0] ![1, 2304] inb_S1x2304_S1x2304_0_0).toLoadRect f5 = ws := (View.readAt_full arg5.view f5 inb_S1x2304_S1x2304_0_0).trans hf5
  have e8 : ∀ inb, View.readAt (Elt F) arg8.view (Rect.unit (k0_off3 i) ![1, 512, 2304] inb).toLoadRect f8 = slot Y j :=
    fun inb => (View.readAt_unit arg8.view f8 inb ho (slot_inb j)).trans (by rw [hf8]; rfl)
  have e9 : View.readAt (Elt F) arg9.view (Rect.unit ![0, 0] ![512, 128] inb_S512x128_S512x128_0_0).toLoadRect f9 = R := (View.readAt_full arg9.view f9 inb_S512x128_S512x128_0_0).trans hf9
  have e10 : View.readAt (Elt F) arg10.view (Rect.unit ![0, 0] ![512, 1] inb_S512x1_S512x1_0_0).toLoadRect f10 = I := (View.readAt_full arg10.view f10 inb_S512x1_S512x1_0_0).trans hf10
  simp only [e2, e3, e4, e5, e9, e10]
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact (View.read_writes_full arg7.view f7 inb_S512x2304_S512x2304_0_0 _ _).trans (congrArg (fun v => codesOf v I) (e8 _))
  isplitl [H8]
  · iexists _; isplitr
    swap; · iexact H8
    ipureintro; exact hf8
  isplitl [H9]
  · iexists _; isplitr
    swap; · iexact H9
    ipureintro; exact hf9
  iexists _; isplitr
  swap; · iexact H10
  ipureintro; exact hf10

end Cert.Kernel.Hand

end
-- ==== Proof.Kernel.Body.lean ====
/-
  The kernel's body meets its obligation at every point of the grid.
-/
module

public import proofs.«01_k».proof.Proof.Kernel.Data
public import proofs.«01_k».proof.Proof.Kernel.RunA
public import proofs.«01_k».proof.Proof.Kernel.RunB
public import proofs.«01_k».proof.Proof.Kernel.RunC
public import proofs.«01_k».proof.Proof.Kernel.RunD
public import proofs.«01_k».proof.Proof.Kernel.RunE

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body at each kind of point -/

set_option maxHeartbeats 4800000 in
/-- The body's obligation at a point of the first row of tiles, not its last: multiply. -/
theorem sound_A (c : Dev nD) (t : Fin cfg0.N) (h9 : t.val < 9) (h8 : t.val % 9 ≠ 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0, leaves1, leaves2, leaves3]
  rw [idle4_eq m c t (by omega)]
  rw [idle5_eq m c t h9]
  rw [show (dats m 0 c).owesAt () t.succ = (dats m 0 c).owesAt () t.castSucc from rfl]
  rw [Phi_castSucc, Phi_succ]
  unfold PhiN
  iintro ⟨⟨%Y, %R, %I, %hI, HY, HR, HI, Hg⟩, Ho, ⟨%d0, H0⟩, ⟨%d1, H1⟩, ⟨%d2, H2⟩, ⟨%d3, H3⟩, ⟨%d4, H4⟩, ⟨%d5, H5⟩⟩
  iapply (runA c (grid0.coords t) (col t) _ _ _ _ _ _ _ _ _ _ _ _ _ _ _ _ _ _ (by rw [cond1_iff]; omega) (by rw [cond2_iff]; omega) (by rw [cond3_iff]; omega) (by rw [cond4_iff]; omega) (off1_eq t) (bx m c t) (bxs m c t) (bw m c t) (bws m c t) _ _ Y R I Set.univ _)
  isplitl [H0]; · iexact H0
  isplitl [H1]; · iexact H1
  isplitl [H2]; · iexact H2
  isplitl [H3]; · iexact H3
  isplitl [H4]; · iexact H4
  isplitl [H5]; · iexact H5
  isplitl [HY]; · iexact HY
  isplitl [HR]; · iexact HR
  isplitl [HI]; · iexact HI
  iintro ⟨H0, H1, H2, H3, H4, H5, HY, HR, HI⟩
  isplitl [HY HR HI Hg]
  · iexists _, _, _
    isplitr
    swap
    · isplitl [HY]; · iexact HY
      isplitl [HR]; · iexact HR
      isplitl [HI]; · iexact HI
      iexact Hg
    ipureintro; exact hI.mul (by omega) h8
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4800000 in
/-- The body's obligation at the last point of the first row of tiles: multiply, then the row's scale. -/
theorem sound_B (c : Dev nD) (t : Fin cfg0.N) (h9 : t.val < 9) (h8 : t.val % 9 = 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0, leaves1, leaves2, leaves3]
  rw [live4 m c t ⟨by omega, h8⟩]
  rw [idle5_eq m c t h9]
  rw [show (dats m 0 c).owesAt () t.succ = (dats m 0 c).owesAt () t.castSucc from rfl]
  rw [Phi_castSucc, Phi_succ]
  unfold PhiN
  iintro ⟨⟨%Y, %R, %I, %hI, HY, HR, HI, Hg⟩, Ho, ⟨%d0, H0⟩, ⟨%d1, H1⟩, ⟨%d2, H2⟩, ⟨%d3, H3⟩, ⟨%d4, H4⟩, ⟨%d5, H5⟩⟩
  iapply (runB c (grid0.coords t) (col t) _ _ _ _ _ _ _ _ _ _ _ _ _ _ _ _ _ _ (by rw [cond1_iff]; omega) (by rw [cond2_iff]; omega) (by rw [cond3_iff]; omega) (by rw [cond4_iff]; omega) (off1_eq t) (bx m c t) (bxs m c t) (bw m c t) (bws m c t) _ _ Y R I Set.univ _)
  isplitl [H0]; · iexact H0
  isplitl [H1]; · iexact H1
  isplitl [H2]; · iexact H2
  isplitl [H3]; · iexact H3
  isplitl [H4]; · iexact H4
  isplitl [H5]; · iexact H5
  isplitl [HY]; · iexact HY
  isplitl [HR]; · iexact HR
  isplitl [HI]; · iexact HI
  iintro ⟨H0, H1, H2, H3, H4, H5, HY, HR, HI⟩
  isplitl [HY HR HI Hg]
  · iexists _, _, _
    isplitr
    swap
    · isplitl [HY]; · iexact HY
      isplitl [HR]; · iexact HR
      isplitl [HI]; · iexact HI
      iexact Hg
    ipureintro; exact hI.mul_last (by omega) h8
  isplitl [Ho]; · iexact Ho
  isplitl [H0]; · iexact H0
  isplitl [H1]; · iexact H1
  isplitl [H2]; · iexact H2
  isplitl [H3]; · iexact H3
  isplitl [H4]
  · rw [after0_4, ← hI.scale (by omega) h8]; iexact H4
  iexists _; iexact H5

set_option maxHeartbeats 4800000 in
/-- The body's obligation at a point of a middle row of tiles, not its last: quantise the row before, then multiply. -/
theorem sound_C (c : Dev nD) (t : Fin cfg0.N) (h9 : 9 ≤ t.val) (h36 : t.val < 36) (h8 : t.val % 9 ≠ 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0, leaves1, leaves2, leaves3]
  rw [idle4_eq m c t (by omega)]
  rw [live5 m c t (by omega)]
  rw [show (dats m 0 c).owesAt () t.succ = (dats m 0 c).owesAt () t.castSucc from rfl]
  rw [Phi_castSucc, Phi_succ]
  unfold PhiN
  iintro ⟨⟨%Y, %R, %I, %hI, HY, HR, HI, Hg⟩, Ho, ⟨%d0, H0⟩, ⟨%d1, H1⟩, ⟨%d2, H2⟩, ⟨%d3, H3⟩, ⟨%d4, H4⟩, ⟨%d5, H5⟩⟩
  iapply (runC c (grid0.coords t) (col t) _ _ _ _ _ _ _ _ _ _ _ _ _ _ _ _ _ _ (by rw [cond1_iff]; omega) (by rw [cond2_iff]; omega) (by rw [cond3_iff]; omega) (by rw [cond4_iff]; omega) (off2_eq t) (bx m c t) (bxs m c t) (bw m c t) (bws m c t) _ _ Y R I Set.univ _)
  isplitl [H0]; · iexact H0
  isplitl [H1]; · iexact H1
  isplitl [H2]; · iexact H2
  isplitl [H3]; · iexact H3
  isplitl [H4]; · iexact H4
  isplitl [H5]; · iexact H5
  isplitl [HY]; · iexact HY
  isplitl [HR]; · iexact HR
  isplitl [HI]; · iexact HI
  iintro ⟨H0, H1, H2, H3, H4, H5, HY, HR, HI⟩
  isplitl [HY HR HI Hg]
  · iexists _, _, _
    isplitr
    swap
    · isplitl [HY]; · iexact HY
      isplitl [HR]; · iexact HR
      isplitl [HI]; · iexact HI
      iexact Hg
    ipureintro; exact hI.mul (by omega) h8
  isplitl [Ho]; · iexact Ho
  isplitl [H0]; · iexact H0
  isplitl [H1]; · iexact H1
  isplitl [H2]; · iexact H2
  isplitl [H3]; · iexact H3
  isplitl [H4]; · iexists _; iexact H4
  rw [after0_5, ← hI.read (by omega)]; iexact H5

set_option maxHeartbeats 4800000 in
/-- The body's obligation at the last point of a middle row of tiles: quantise the row before, multiply, then the row's scale. -/
theorem sound_D (c : Dev nD) (t : Fin cfg0.N) (h9 : 9 ≤ t.val) (h36 : t.val < 36) (h8 : t.val % 9 = 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0, leaves1, leaves2, leaves3]
  rw [live4 m c t ⟨by omega, h8⟩]
  rw [live5 m c t (by omega)]
  rw [show (dats m 0 c).owesAt () t.succ = (dats m 0 c).owesAt () t.castSucc from rfl]
  rw [Phi_castSucc, Phi_succ]
  unfold PhiN
  iintro ⟨⟨%Y, %R, %I, %hI, HY, HR, HI, Hg⟩, Ho, ⟨%d0, H0⟩, ⟨%d1, H1⟩, ⟨%d2, H2⟩, ⟨%d3, H3⟩, ⟨%d4, H4⟩, ⟨%d5, H5⟩⟩
  iapply (runD c (grid0.coords t) (col t) _ _ _ _ _ _ _ _ _ _ _ _ _ _ _ _ _ _ (by rw [cond1_iff]; omega) (by rw [cond2_iff]; omega) (by rw [cond3_iff]; omega) (by rw [cond4_iff]; omega) (off2_eq t) (bx m c t) (bxs m c t) (bw m c t) (bws m c t) _ _ Y R I Set.univ _)
  isplitl [H0]; · iexact H0
  isplitl [H1]; · iexact H1
  isplitl [H2]; · iexact H2
  isplitl [H3]; · iexact H3
  isplitl [H4]; · iexact H4
  isplitl [H5]; · iexact H5
  isplitl [HY]; · iexact HY
  isplitl [HR]; · iexact HR
  isplitl [HI]; · iexact HI
  iintro ⟨H0, H1, H2, H3, H4, H5, HY, HR, HI⟩
  isplitl [HY HR HI Hg]
  · iexists _, _, _
    isplitr
    swap
    · isplitl [HY]; · iexact HY
      isplitl [HR]; · iexact HR
      isplitl [HI]; · iexact HI
      iexact Hg
    ipureintro; exact hI.mul_last (by omega) h8
  isplitl [Ho]; · iexact Ho
  isplitl [H0]; · iexact H0
  isplitl [H1]; · iexact H1
  isplitl [H2]; · iexact H2
  isplitl [H3]; · iexact H3
  isplitl [H4]
  · rw [after0_4, ← hI.scale (by omega) h8]; iexact H4
  rw [after0_5, ← hI.read (by omega)]; iexact H5

set_option maxHeartbeats 4800000 in
/-- The body's obligation at a point of the draining row: quantise the last row of tiles. -/
theorem sound_E (c : Dev nD) (t : Fin cfg0.N) (h36 : 36 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0, leaves1, leaves2, leaves3]
  rw [live5 m c t (by omega)]
  rw [show (dats m 0 c).owesAt () t.succ = (dats m 0 c).owesAt () t.castSucc from rfl]
  rw [Phi_castSucc, Phi_succ]
  unfold PhiN
  iintro ⟨⟨%Y, %R, %I, %hI, HY, HR, HI, Hg⟩, Ho, ⟨%d0, H0⟩, ⟨%d1, H1⟩, ⟨%d2, H2⟩, ⟨%d3, H3⟩, ⟨%d4, H4⟩, ⟨%d5, H5⟩⟩
  iapply (runE c (grid0.coords t) (col t) _ _ _ _ _ _ _ _ _ _ _ _ _ _ _ _ _ _ (by rw [cond1_iff]; omega) (by rw [cond2_iff]; omega) (by rw [cond3_iff]; omega) (by rw [cond4_iff]; omega) (off3_eq t) (bx m c t) (bxs m c t) (bw m c t) (bws m c t) _ _ Y R I Set.univ _)
  isplitl [H0]; · iexact H0
  isplitl [H1]; · iexact H1
  isplitl [H2]; · iexact H2
  isplitl [H3]; · iexact H3
  isplitl [H4]; · iexact H4
  isplitl [H5]; · iexact H5
  isplitl [HY]; · iexact HY
  isplitl [HR]; · iexact HR
  isplitl [HI]; · iexact HI
  iintro ⟨H0, H1, H2, H3, H4, H5, HY, HR, HI⟩
  isplitl [HY HR HI Hg]
  · iexists _, _, _
    isplitr
    swap
    · isplitl [HY]; · iexact HY
      isplitl [HR]; · iexact HR
      isplitl [HI]; · iexact HI
      iexact Hg
    ipureintro; exact hI.drain h36
  isplitl [Ho]; · iexact Ho
  isplitl [H0]; · iexact H0
  isplitl [H1]; · iexact H1
  isplitl [H2]; · iexact H2
  isplitl [H3]; · iexact H3
  isplitl [H4]
  · by_cases h8 : t.val % 9 = 8
    · rw [flush4_eq m c t h36 h8, before4 m c t h36]; iexact H4
    · rw [idle4_eq m c t (by omega)]; iexists _; iexact H4
  rw [after0_5, ← hI.read (by omega)]; iexact H5

/-- The body's obligation at every point. -/
theorem sound_body (c : Dev nD) (t : Fin cfg0.N) :
    bodyPre m c t ⊢ wp frame (wpE (defs₀ (F := F)) Variants.none c none) Set.univ (bodyAt0 t) (fun _ => bodyPost m c t) := by
  by_cases h9 : t.val < 9
  · by_cases h8 : t.val % 9 = 8
    · exact sound_B m c t h9 h8
    · exact sound_A m c t h9 h8
  by_cases h36 : t.val < 36
  · by_cases h8 : t.val % 9 = 8
    · exact sound_D m c t (by omega) h36 h8
    · exact sound_C m c t (by omega) h36 h8
  exact sound_E m c t (by omega)

/-- The body's definition at a point. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.Kernel.Hand

end
-- ==== Proof.Kernel.Run.lean ====
/-
  The kernel's run: it terminates, leaves its arguments as they were, every counter at zero, and its results at
  what the proof data says.
-/
module

public import proofs.«01_k».proof.Proof.Kernel.Body
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's own invariant, the scratch as memrefs owned at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the launch hands the region is the invariant before the first point. -/
theorem hin (c : Dev nD) : Pipeline.ΦA spec0 c ⊢ (dats m 0 c).Φ 0 := by
  rw [show (dats m 0 c).Φ 0 = PhiN m c 0 from rfl, PhiA0_eq]
  unfold PhiN
  iintro ⟨⟨⟨%Y, HY⟩, ⟨%R, HR⟩, ⟨%I, HI⟩⟩, Hg⟩
  iexists Y, R, I
  isplitr
  · ipureintro; exact Inv.zero m c Y R I
  isplitl [HY]; · iexact HY
  isplitl [HR]; · iexact HR
  isplitl [HI]; · iexact HI
  iexact Hg

/-- After the last point the invariant gives it back. -/
theorem hout (c : Dev nD) : (dats m 0 c).Φ (Fin.last cfg0.N) ⊢ Pipeline.ΦA spec0 c := by
  rw [show (dats m 0 c).Φ (Fin.last cfg0.N) = PhiN m c (Fin.last cfg0.N).val from rfl, PhiA0_eq]
  unfold PhiN
  iintro ⟨%Y, %R, %I, %hI, HY, HR, HI, Hg⟩
  isplitl [HY HR HI]
  · isplitl [HY]; · iexists _; iexact HY
    isplitl [HR]; · iexists _; iexact HR
    iexists _; iexact HI
  iexact Hg

set_option backward.isDefEq.respectTransparency.types false in
/-- The launch: every execution ends with the arrays at what the proof data computes and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.KernelIdeal.Steps.lean ====
/-
  What one grid point computes, as functions of vectors: the tile of the scaled product, the running
  row maximum, the scale and its inverse, the codes; and one tile of the scratch that holds nine of them.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile of `x · w · xs · ws` one point computes, as a matrix. -/
abbrev ytile (x : Vec F S512x2432 .fp8e4m3) (w : Vec F S2432x2304 .fp8e4m3) (xs : Vec F S512x1 .f32) (ws : Vec F S1x2304 .f32) : FVec F S512x2304 .f32 :=
  k0_pay7 x w xs ws

/-- The same tile in the shape of one slot of the scratch. -/
abbrev yslot (x : Vec F S512x2432 .fp8e4m3) (w : Vec F S2432x2304 .fp8e4m3) (xs : Vec F S512x1 .f32) (ws : Vec F S1x2304 .f32) : FVec F S1x512x2304 .f32 :=
  k0_pay8 x w xs ws

/-- The running row maximum after a point, from what it was before (`R`, dropped at a row's first tile). -/
abbrev rowmax (i : grid0.Coords) (x : Vec F S512x2432 .fp8e4m3) (w : Vec F S2432x2304 .fp8e4m3) (xs : Vec F S512x1 .f32) (ws : Vec F S1x2304 .f32)
    (R : Vec F S512x128 .f32) : FVec F S512x128 .f32 :=
  k0_pay1 i (k0_pay7 x w xs ws) (k0_pay9 x w xs ws) (k0_pay10 x w xs ws) R

/-- The scale of each row from the 128 partial maxima of the row. -/
abbrev scaleOf (R : Vec F S512x128 .f32) : FVec F S512x1 .f32 :=
  k0_pay5 (k0_pay16 R) (k0_pay17 R) (k0_pay20 (k0_pay17 R) (k0_pay18 R) (k0_pay19 R) 1#32) (k0_pay21 (k0_pay17 R) (k0_pay18 R) (k0_pay19 R) 1#32) 1#32

/-- The inverse of that scale. -/
abbrev invOf (R : Vec F S512x128 .f32) : FVec F S512x1 .f32 :=
  k0_pay6 (k0_pay16 R) (k0_pay17 R) (k0_pay20 (k0_pay17 R) (k0_pay18 R) (k0_pay19 R) 1#32) (k0_pay21 (k0_pay17 R) (k0_pay18 R) (k0_pay19 R) 1#32) 1#32

/-- The codes of a tile from the inverse scale. -/
abbrev codesOf (v : Vec F S1x512x2304 .f32) (I : Vec F S512x1 .f32) : FVec F S512x2304 .fp8e4m3 := k0_pay3 v I

/-- The body prints the same operations in both of its multiplying branches: the second branch's values are the first's. -/
theorem pay12_eq (x : Vec F S512x2432 .fp8e4m3) (w : Vec F S2432x2304 .fp8e4m3) (xs : Vec F S512x1 .f32) (ws : Vec F S1x2304 .f32) :
    k0_pay12 x w xs ws = k0_pay7 x w xs ws := rfl
/-- The two copies of the scaled product agree. -/
theorem pay13_eq (x : Vec F S512x2432 .fp8e4m3) (w : Vec F S2432x2304 .fp8e4m3) (xs : Vec F S512x1 .f32) (ws : Vec F S1x2304 .f32) :
    k0_pay13 x w xs ws = k0_pay8 x w xs ws := rfl
/-- The two copies of the row maximum agree. -/
theorem pay2_eq (i : grid0.Coords) (x : Vec F S512x2432 .fp8e4m3) (w : Vec F S2432x2304 .fp8e4m3) (xs : Vec F S512x1 .f32) (ws : Vec F S1x2304 .f32)
    (R : Vec F S512x128 .f32) :
    k0_pay2 i (k0_pay12 x w xs ws) (k0_pay14 x w xs ws) (k0_pay15 x w xs ws) R = rowmax i x w xs ws R := rfl
/-- The two copies of the codes agree. -/
theorem pay11_eq (v : Vec F S1x512x2304 .f32) (I : Vec F S512x1 .f32) : k0_pay11 v I = k0_pay3 v I := rfl

/-- Slot `j` of the nine lies inside the scratch. -/
theorem slot_inb (j : Fin 9) : ∀ a, (![j.val, 0, 0] : Fin 3 → ℕ) a + S1x512x2304.size a ≤ S9x512x2304.size a := by
  intro a
  have := j.isLt
  match a with
  | ⟨0, _⟩ => show j.val + 1 ≤ 9; omega
  | ⟨1, _⟩ => show 0 + 512 ≤ 512; omega
  | ⟨2, _⟩ => show 0 + 2304 ≤ 2304; omega

/-- Slot `j` of the scratch. -/
def slot (Y : Vec F S9x512x2304 .f32) (j : Fin 9) : Vec F S1x512x2304 .f32 :=
  VecWindow.window (s := S9x512x2304) Y ![j.val, 0, 0] S1x512x2304.size (slot_inb j)

/-- The scratch with slot `j` replaced. -/
def setSlot (Y : Vec F S9x512x2304 .f32) (j : Fin 9) (v : Vec F S1x512x2304 .f32) : Vec F S9x512x2304 .f32 :=
  VecWindow.put (s := S9x512x2304) Y ![j.val, 0, 0] S1x512x2304.size v

/-- A slot just written holds what was written. -/
theorem slot_setSlot_same (Y : Vec F S9x512x2304 .f32) (j : Fin 9) (v : Vec F S1x512x2304 .f32) : slot (setSlot Y j v) j = v :=
  VecWindow.window_put_same (s := S9x512x2304) Y ![j.val, 0, 0] S1x512x2304.size (slot_inb j) v

/-- Writing one slot leaves the others. -/
theorem slot_setSlot_ne (Y : Vec F S9x512x2304 .f32) (j j' : Fin 9) (h : j' ≠ j) (v : Vec F S1x512x2304 .f32) : slot (setSlot Y j v) j' = slot Y j' :=
  VecWindow.window_put_of_disjoint (s := S9x512x2304) Y ![j.val, 0, 0] S1x512x2304.size ![j'.val, 0, 0] S1x512x2304.size (slot_inb j') v 0 (by
    have : j'.val ≠ j.val := fun e => h (Fin.ext e)
    show j'.val + 1 ≤ j.val ∨ j.val + 1 ≤ j'.val
    omega)

end Cert.KernelIdeal.Hand

end
-- ==== Proof.KernelIdeal.Sched.lean ====
/-
  The schedule in closed form: at which points each branch of the body runs, which slot of the scratch it
  touches, and at which points the two outputs are idle, written back, or hold nothing stored.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- There are 45 points. -/
theorem lt45 (t : Fin cfg0.N) : t.val < 45 := lt_of_lt_of_eq t.isLt (show cfg0.N = 45 from N_0)

/-- A point's row of tiles. -/
theorem coord0 (t : Fin cfg0.N) : (grid0.coords t 0).val = t.val / 9 % 5 := Pipeline.Grid.coords_val t 0 (by decide) rfl
/-- A point's column of tiles. -/
theorem coord1 (t : Fin cfg0.N) : (grid0.coords t 1).val = t.val / 1 % 9 := Pipeline.Grid.coords_val t 1 (by decide) rfl

/-- The multiplying branch of the first row. -/
theorem cond1_iff (t : Fin cfg0.N) : k0_cond1 (grid0.coords t) = 1#1 ↔ t.val < 9 := by
  have ht := lt45 t
  revert t; decide +kernel
/-- The middle rows' branch. -/
theorem cond2_iff (t : Fin cfg0.N) : k0_cond2 (grid0.coords t) = 1#1 ↔ 9 ≤ t.val ∧ t.val < 36 := by
  revert t; decide +kernel
/-- The draining row's branch. -/
theorem cond3_iff (t : Fin cfg0.N) : k0_cond3 (grid0.coords t) = 1#1 ↔ 36 ≤ t.val := by
  revert t; decide +kernel
/-- The branch at a row's last tile. -/
theorem cond4_iff (t : Fin cfg0.N) : k0_cond4 (grid0.coords t) = 1#1 ↔ t.val < 36 ∧ t.val % 9 = 8 := by
  revert t; decide +kernel

/-- The slot of the scratch a point touches: its column. -/
def col (t : Fin cfg0.N) : Fin 9 := ⟨t.val % 9, Nat.mod_lt _ (by decide)⟩

/-- The slot a multiplying point of the first row writes. -/
theorem off1_eq (t : Fin cfg0.N) : k0_off1 (grid0.coords t) = ![(col t).val, 0, 0] := by
  revert t; decide +kernel
/-- The slot a point of a steady row reads and writes. -/
theorem off2_eq (t : Fin cfg0.N) : k0_off2 (grid0.coords t) = ![(col t).val, 0, 0] := by
  revert t; decide +kernel
/-- The slot a draining point reads. -/
theorem off3_eq (t : Fin cfg0.N) : k0_off3 (grid0.coords t) = ![(col t).val, 0, 0] := by
  revert t; decide +kernel

/-- The scale's window is idle except at the last tile of each multiplying row. -/
theorem idle4 (t : Fin cfg0.N) : cfg0.idle 4 (grid0.coords t) = !decide (t.val < 36 ∧ t.val % 9 = 8) := by
  revert t; decide +kernel
/-- The codes' window is idle in the first row. -/
theorem idle5 (t : Fin cfg0.N) : cfg0.idle 5 (grid0.coords t) = decide (t.val < 9) := by
  revert t; decide +kernel
/-- The scale is written back after points 8, 17, 26 and 44. -/
theorem flush4 (t : Fin cfg0.N) : (cfg0.win 4).flush t = decide (t.val % 9 = 8 ∧ t.val ≠ 35) := by
  revert t; decide +kernel
/-- The codes are written back after every point from 9 on. -/
theorem flush5 (t : Fin cfg0.N) : (cfg0.win 5).flush t = decide (9 ≤ t.val) := by
  revert t; decide +kernel
/-- The scale's buffer holds nothing stored before point 36. -/
theorem fresh4 (t : Fin cfg0.N) : cfg0.fresh 4 t.val = decide (t.val < 36) := by
  revert t; decide +kernel

end Cert.KernelIdeal.Hand

end
-- ==== Proof.KernelIdeal.State.lean ====
/-
  What the scratch and the outputs hold at each point of the grid, from the arrays the kernel is given: the
  tile of a point, the row maximum after it, the scale and its inverse after a row, and the invariant that says so.
-/
module

public import proofs.«01_k».proof.Proof.KernelIdeal.Steps
public import proofs.«01_k».proof.Proof.KernelIdeal.Sched

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The grid's point of a number (below 45, itself). -/
def pt (n : ℕ) : Fin cfg0.N := ⟨n % 45, lt_of_lt_of_eq (Nat.mod_lt _ (by decide)) (show cfg0.N = 45 from N_0).symm⟩

/-- The point of a point's number is the point. -/
theorem pt_val (t : Fin cfg0.N) : pt t.val = t := Fin.ext (Nat.mod_eq_of_lt (lt45 t))

/-- The four blocks a point reads. -/
abbrev bx (c : Dev nD) (t : Fin cfg0.N) : Vec F S512x2432 .fp8e4m3 := iblk m c 0 t
abbrev bxs (c : Dev nD) (t : Fin cfg0.N) : Vec F S512x1 .f32 := iblk m c 1 t
abbrev bw (c : Dev nD) (t : Fin cfg0.N) : Vec F S2432x2304 .fp8e4m3 := iblk m c 2 t
abbrev bws (c : Dev nD) (t : Fin cfg0.N) : Vec F S1x2304 .f32 := iblk m c 3 t

/-- The tile point `n` computes, as a slot of the scratch. -/
def tileAt (c : Dev nD) (n : ℕ) : Vec F S1x512x2304 .f32 :=
  yslot (bx m c (pt n)) (bw m c (pt n)) (bxs m c (pt n)) (bws m c (pt n))

/-- One point's step of the row maximum. -/
def maxStep (c : Dev nD) (n : ℕ) (R : Vec F S512x128 .f32) : Vec F S512x128 .f32 :=
  rowmax (grid0.coords (pt n)) (bx m c (pt n)) (bw m c (pt n)) (bxs m c (pt n)) (bws m c (pt n)) R

/-- What stands for the row maximum before the first point (it is dropped there). -/
def maxBefore (c : Dev nD) : Vec F S512x128 .f32 := k0_pay9 (bx m c (pt 0)) (bw m c (pt 0)) (bxs m c (pt 0)) (bws m c (pt 0))

/-- The row maximum after point `n`. -/
def maxAt (c : Dev nD) : ℕ → Vec F S512x128 .f32
  | 0 => maxStep m c 0 (maxBefore m c)
  | n + 1 => maxStep m c (n + 1) (maxAt c n)

/-- The scale of row `r` of tiles, and its inverse. -/
def scaleAt (c : Dev nD) (r : ℕ) : Vec F S512x1 .f32 := scaleOf (maxAt m c (9 * r + 8))
/-- The inverse scale of row `r` of tiles. -/
def invAt (c : Dev nD) (r : ℕ) : Vec F S512x1 .f32 := invOf (maxAt m c (9 * r + 8))

/-- The codes point `n` writes: those of the tile nine points before. -/
def codesAt (c : Dev nD) (n : ℕ) : Vec F S512x2304 .fp8e4m3 := codesOf (tileAt m c (n - 9)) (invAt m c (n / 9 - 1))

/-- At the first tile of a row the maximum so far is dropped. -/
theorem rowmax_first (i : grid0.Coords) (hi : (i 1).val = 0) (x : Vec F S512x2432 .fp8e4m3) (w : Vec F S2432x2304 .fp8e4m3)
    (xs : Vec F S512x1 .f32) (ws : Vec F S1x2304 .f32) (R R' : Vec F S512x128 .f32) :
    rowmax i x w xs ws R = rowmax i x w xs ws R' := by
  unfold rowmax k0_pay1
  simp only [hi]
  rfl

/-- The scratch before point `n`: every tile computed and not yet quantised is in its slot, the row maximum is that
    of the point before, and the inverse scale is that of the last finished row. -/
structure Inv (c : Dev nD) (n : ℕ) (Y : Vec F S9x512x2304 .f32) (R : Vec F S512x128 .f32) (I : Vec F S512x1 .f32) : Prop where
  tiles : ∀ k, k < n → k < 36 → (n ≤ k + 9 ∨ 27 ≤ k) → slot Y ⟨k % 9, Nat.mod_lt _ (by decide)⟩ = tileAt m c k
  rmax : 1 ≤ n → n ≤ 36 → R = maxAt m c (n - 1)
  inv : ∀ r, r < 4 → 9 * (r + 1) ≤ n → n < 9 * (r + 2) → I = invAt m c r

/-- Before the first point the invariant holds of any scratch. -/
theorem Inv.zero (c : Dev nD) (Y : Vec F S9x512x2304 .f32) (R : Vec F S512x128 .f32) (I : Vec F S512x1 .f32) : Inv m c 0 Y R I :=
  ⟨fun k h => by omega, fun h => by omega, fun r _ h => by omega⟩

variable {m}

/-- The tile a quantising point reads. -/
theorem Inv.read {c : Dev nD} {t : Fin cfg0.N} {Y : Vec F S9x512x2304 .f32} {R : Vec F S512x128 .f32} {I : Vec F S512x1 .f32} (h : Inv m c t.val Y R I) (ht : 9 ≤ t.val) :
    codesOf (slot Y (col t)) I = codesAt m c t.val := by
  have h45 := lt45 t
  have h1 := h.tiles (t.val - 9) (by omega) (by omega) (by omega)
  have h2 := h.inv (t.val / 9 - 1) (by omega) (by omega) (by omega)
  have hc : col t = ⟨(t.val - 9) % 9, Nat.mod_lt _ (by decide)⟩ := Fin.ext (by show t.val % 9 = (t.val - 9) % 9; omega)
  rw [hc, h1, h2]; rfl

/-- The row maximum after a multiplying point. -/
theorem Inv.step_max {c : Dev nD} {t : Fin cfg0.N} {Y : Vec F S9x512x2304 .f32} {R : Vec F S512x128 .f32} {I : Vec F S512x1 .f32} (h : Inv m c t.val Y R I) (ht : t.val < 36) :
    rowmax (grid0.coords t) (bx m c t) (bw m c t) (bxs m c t) (bws m c t) R = maxAt m c t.val := by
  have hp := pt_val t
  rcases Nat.eq_zero_or_pos t.val with h0 | h0
  · rw [rowmax_first (grid0.coords t) (by rw [coord1, h0]) _ _ _ _ R (maxBefore m c)]
    rw [h0]
    show _ = maxStep m c 0 _
    unfold maxStep
    rw [← h0, hp]
  · rw [h.rmax h0 (by omega)]
    obtain ⟨n, hn⟩ : ∃ n, t.val = n + 1 := ⟨t.val - 1, by omega⟩
    rw [hn] at hp ⊢
    show _ = maxStep m c (n + 1) _
    unfold maxStep
    rw [hp]; rfl

/-- A point's tile from its four blocks. -/
theorem tileAt_eq (c : Dev nD) (t : Fin cfg0.N) : tileAt m c t.val = yslot (bx m c t) (bw m c t) (bxs m c t) (bws m c t) := by
  unfold tileAt; rw [pt_val]

/-- A multiplying point that does not end its row. -/
theorem Inv.mul {c : Dev nD} {t : Fin cfg0.N} {Y : Vec F S9x512x2304 .f32} {R : Vec F S512x128 .f32} {I : Vec F S512x1 .f32} (h : Inv m c t.val Y R I) (ht : t.val < 36)
    (h8 : t.val % 9 ≠ 8) :
    Inv m c (t.val + 1) (setSlot Y (col t) (yslot (bx m c t) (bw m c t) (bxs m c t) (bws m c t)))
      (rowmax (grid0.coords t) (bx m c t) (bw m c t) (bxs m c t) (bws m c t) R) I where
  tiles k hk hk' hc := by
    by_cases e : k = t.val
    · subst e; rw [tileAt_eq]; exact slot_setSlot_same _ (col t) _
    · rw [slot_setSlot_ne _ _ _ (fun e' => by have := congrArg Fin.val e'; simp only [col] at this; omega)]
      exact h.tiles k (by omega) hk' (by omega)
  rmax _ _ := h.step_max ht
  inv r hr h1 h2 := h.inv r hr (by omega) (by omega)

/-- A multiplying point that ends its row. -/
theorem Inv.mul_last {c : Dev nD} {t : Fin cfg0.N} {Y : Vec F S9x512x2304 .f32} {R : Vec F S512x128 .f32} {I : Vec F S512x1 .f32} (h : Inv m c t.val Y R I) (ht : t.val < 36)
    (h8 : t.val % 9 = 8) :
    Inv m c (t.val + 1) (setSlot Y (col t) (yslot (bx m c t) (bw m c t) (bxs m c t) (bws m c t)))
      (rowmax (grid0.coords t) (bx m c t) (bw m c t) (bxs m c t) (bws m c t) R)
      (invOf (rowmax (grid0.coords t) (bx m c t) (bw m c t) (bxs m c t) (bws m c t) R)) where
  tiles k hk hk' hc := by
    by_cases e : k = t.val
    · subst e; rw [tileAt_eq]; exact slot_setSlot_same _ (col t) _
    · rw [slot_setSlot_ne _ _ _ (fun e' => by have := congrArg Fin.val e'; simp only [col] at this; omega)]
      exact h.tiles k (by omega) hk' (by omega)
  rmax _ _ := h.step_max ht
  inv r hr h1 h2 := by
    rw [h.step_max ht]
    have : t.val = 9 * r + 8 := by omega
    rw [this]; rfl

/-- The scale a row's last point stores. -/
theorem Inv.scale {c : Dev nD} {t : Fin cfg0.N} {Y : Vec F S9x512x2304 .f32} {R : Vec F S512x128 .f32} {I : Vec F S512x1 .f32} (h : Inv m c t.val Y R I) (ht : t.val < 36)
    (h8 : t.val % 9 = 8) :
    scaleOf (rowmax (grid0.coords t) (bx m c t) (bw m c t) (bxs m c t) (bws m c t) R) = scaleAt m c (min (t.val / 9) 3) := by
  rw [h.step_max ht]
  have : t.val = 9 * min (t.val / 9) 3 + 8 := by omega
  unfold scaleAt; rw [← this]

/-- A draining point changes nothing in the scratch. -/
theorem Inv.drain {c : Dev nD} {t : Fin cfg0.N} {Y : Vec F S9x512x2304 .f32} {R : Vec F S512x128 .f32} {I : Vec F S512x1 .f32} (h : Inv m c t.val Y R I) (ht : 36 ≤ t.val) :
    Inv m c (t.val + 1) Y R I where
  tiles k hk hk' hc := h.tiles k (by omega) hk' (by omega)
  rmax _ h' := by omega
  inv r hr h1 h2 := h.inv r hr (by have := lt45 t; omega) (by omega)

end Cert.KernelIdeal.Hand

end
-- ==== Proof.KernelIdeal.Data.lean ====
/-
  The proof data of the pipeline: what every buffer holds before and after the body at each point.
-/
module

public import proofs.«01_k».proof.Proof.KernelIdeal.State

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The pipeline's proof data -/

/-- Before point `n` the core holds the scratch at contents the invariant describes, and its generator register. -/
def PhiN (c : Dev nD) (n : ℕ) : sProp 𝕄 :=
  iprop(∃ (Y : Vec F S9x512x2304 .f32) (R : Vec F S512x128 .f32) (I : Vec F S512x1 .f32), ⌜Inv m c n Y R I⌝
    ∗ owns (c : Thread nD τ) (Memref.whole cc0_scratch0) fullShare Y
    ∗ owns (c : Thread nD τ) (Memref.whole cc0_scratch1) fullShare R
    ∗ owns (c : Thread nD τ) (Memref.whole cc0_scratch2) fullShare I ∗ (∃ r, prngReg c r))

/-- The proof data: the arrays as the region finds them, each input's buffer at its block, the scale's buffer at its row's
    scale, the codes' at the codes of the tile nine points before; the invariant `PhiN`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => scaleAt m c (min (t.val / 9) 3)
    | ⟨5, _⟩ => codesAt m c t.val
  Φ t := PhiN m c t.val
  q _ := fullShare
  owed _ := 0

/-- The arrays at the start. -/
theorem A_eq (c : Dev nD) (w : Fin cfg0.W) : (dats m 0 c).A w = V m c (Pipeline.arrRef spec0 w) := by
  dsimp only [dats]

/-- The scratch invariant before a point. -/
theorem Phi_castSucc (c : Dev nD) (t : Fin cfg0.N) : (dats m 0 c).Φ t.castSucc = PhiN m c t.val := by
  dsimp only [dats]; rfl
/-- The scratch invariant after a point. -/
theorem Phi_succ (c : Dev nD) (t : Fin cfg0.N) : (dats m 0 c).Φ t.succ = PhiN m c (t.val + 1) := by
  dsimp only [dats]; rfl

/-- What each window holds after a point: an input its block, the results their own. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = scaleAt m c (min (t.val / 9) 3) := by dsimp only [dats]
theorem after0_5 (c : Dev nD) (t : Fin cfg0.N) : (dats m 0 c).after 5 t = codesAt m c t.val := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- In the draining row the scale's buffer holds the last row's scale all along. -/
theorem before4 (c : Dev nD) (t : Fin cfg0.N) (h36 : 36 ≤ t.val) (d) : (dats m 0 c).before 4 t d = (dats m 0 c).after 4 t := by
  rw [(dats m 0 c).before_out_traj 4 rfl (fun _ _ => rfl) (fun t ht hi hf => by
    rw [fresh4] at hf
    have h : 36 ≤ t.val := by have := of_decide_eq_false hf; omega
    rw [after0_4, after0_4]
    have e : min (t.val / 9) 3 = min ((t.val - 1) / 9) 3 := by omega
    rw [e]) t.val t rfl d]
  rw [fresh4, decide_eq_false (by omega), if_neg Bool.false_ne_true, after0_4, after0_4]
  have e : min ((t.val - 1) / 9) 3 = min (t.val / 9) 3 := by omega
  show scaleAt m c (min ((t.val - 1) / 9) 3) = _
  rw [e]

/-! ## What each window's buffer is left with -/

theorem leaves0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem leaves1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem leaves2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem leaves3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]

/-- The scale's window holds the scales at the end of a multiplying row. -/
theorem live4 (c : Dev nD) (t : Fin cfg0.N) (h : t.val < 36 ∧ t.val % 9 = 8) :
    (dats m 0 c).leavesExact 4 t = owns (c : Thread nD τ) (st0_4 t) fullShare ((dats m 0 c).after 4 t) := by
  unfold Dat.leavesExact
  rw [show cfg0.idle 4 (cfg0.grid.coords t) = false from (idle4 t).trans (by rw [decide_eq_true h]; rfl)]
/-- The scale's window still holds the last scales at the end of the draining row. -/
theorem flush4_eq (c : Dev nD) (t : Fin cfg0.N) (h36 : 36 ≤ t.val) (h8 : t.val % 9 = 8) :
    (dats m 0 c).leavesExact 4 t = owns (c : Thread nD τ) (st0_4 t) fullShare ((dats m 0 c).after 4 t) := by
  unfold Dat.leavesExact
  rw [show cfg0.idle 4 (cfg0.grid.coords t) = true from (idle4 t).trans (by rw [decide_eq_false (by omega)]; rfl),
    show (cfg0.win 4).flush t = true from (flush4 t).trans (decide_eq_true (by omega))]
/-- The scale's window is untouched inside a row. -/
theorem idle4_eq (c : Dev nD) (t : Fin cfg0.N) (h8 : t.val % 9 ≠ 8) :
    (dats m 0 c).leavesExact 4 t = iprop(∃ d, owns (c : Thread nD τ) (st0_4 t) fullShare ((dats m 0 c).before 4 t d)) :=
  Dat.leavesExact_idle (dats m 0 c) 4 t ((idle4 t).trans (by rw [decide_eq_false (by omega)]; rfl)) ((flush4 t).trans (decide_eq_false (by omega)))
/-- The codes' window holds the codes from the second row on. -/
theorem live5 (c : Dev nD) (t : Fin cfg0.N) (h : 9 ≤ t.val) :
    (dats m 0 c).leavesExact 5 t = owns (c : Thread nD τ) (st0_5 t) fullShare ((dats m 0 c).after 5 t) := by
  unfold Dat.leavesExact
  rw [show cfg0.idle 5 (cfg0.grid.coords t) = false from (idle5 t).trans (decide_eq_false (by omega))]
/-- The codes' window is untouched in the first row. -/
theorem idle5_eq (c : Dev nD) (t : Fin cfg0.N) (h : t.val < 9) :
    (dats m 0 c).leavesExact 5 t = iprop(∃ d, owns (c : Thread nD τ) (st0_5 t) fullShare ((dats m 0 c).before 5 t d)) :=
  Dat.leavesExact_idle (dats m 0 c) 5 t ((idle5 t).trans (decide_eq_true h)) ((flush5 t).trans (decide_eq_false (by omega)))

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

end Cert.KernelIdeal.Hand

end
-- ==== Proof.KernelIdeal.RunA.lean ====
/-
  The kernel's body at a point of the first row of tiles, not its last: multiply,
  from any contents of its buffers to the contents it leaves.
-/
module

public import proofs.«01_k».proof.Proof.KernelIdeal.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the first row of tiles, not its last: multiply. -/
theorem runA (c : Dev nD) (i : grid0.Coords) (j : Fin 9)
    (arg2 : Memref sig .tc .vmem S512x2432 .fp8e4m3) (harg2 : arg2.IsWhole) (arg3 : Memref sig .tc .vmem S512x1 .f32) (harg3 : arg3.IsWhole)
    (arg4 : Memref sig .tc .vmem S2432x2304 .fp8e4m3) (harg4 : arg4.IsWhole) (arg5 : Memref sig .tc .vmem S1x2304 .f32) (harg5 : arg5.IsWhole)
    (arg6 : Memref sig .tc .vmem S512x1 .f32) (harg6 : arg6.IsWhole) (arg7 : Memref sig .tc .vmem S512x2304 .fp8e4m3) (harg7 : arg7.IsWhole)
    (arg8 : Memref sig .tc .vmem S9x512x2304 .f32) (harg8 : arg8.IsWhole) (arg9 : Memref sig .tc .vmem S512x128 .f32) (harg9 : arg9.IsWhole)
    (arg10 : Memref sig .tc .vmem S512x1 .f32) (harg10 : arg10.IsWhole)
    (h1 : k0_cond1 i = 1#1) (h2 : ¬ k0_cond2 i = 1#1) (h3 : ¬ k0_cond3 i = 1#1) (h4 : ¬ k0_cond4 i = 1#1) (ho : k0_off1 i = ![j.val, 0, 0])
    (x : Vec F S512x2432 .fp8e4m3) (xs : Vec F S512x1 .f32) (w : Vec F S2432x2304 .fp8e4m3) (ws : Vec F S1x2304 .f32)
    (s : Vec F S512x1 .f32) (q : Vec F S512x2304 .fp8e4m3)
    (Y : Vec F S9x512x2304 .f32) (R : Vec F S512x128 .f32) (I : Vec F S512x1 .f32) (E : Set ℕ) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare q ∗ owns (c : Thread nD τ) arg8 fullShare Y ∗ owns (c : Thread nD τ) arg9 fullShare R ∗ owns (c : Thread nD τ) arg10 fullShare I
        ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare q ∗ owns (c : Thread nD τ) arg8 fullShare (setSlot Y j (yslot x w xs ws)) ∗ owns (c : Thread nD τ) arg9 fullShare (rowmax i x w xs ws R) ∗ owns (c : Thread nD τ) arg10 fullShare I) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | sl_exact h1 | sl_exact h2 | sl_exact h3 | sl_exact h4)
  sl_step
  dsimp only
  have e2 : View.readAt (Elt F) arg2.view (Rect.unit ![0, 0] ![512, 2432] inb_S512x2432_S512x2432_0_0).toLoadRect f2 = x := (View.readAt_full arg2.view f2 inb_S512x2432_S512x2432_0_0).trans hf2
  have e3 : View.readAt (Elt F) arg3.view (Rect.unit ![0, 0] ![512, 1] inb_S512x1_S512x1_0_0).toLoadRect f3 = xs := (View.readAt_full arg3.view f3 inb_S512x1_S512x1_0_0).trans hf3
  have e4 : View.readAt (Elt F) arg4.view (Rect.unit ![0, 0] ![2432, 2304] inb_S2432x2304_S2432x2304_0_0).toLoadRect f4 = w := (View.readAt_full arg4.view f4 inb_S2432x2304_S2432x2304_0_0).trans hf4
  have e5 : View.readAt (Elt F) arg5.view (Rect.unit ![0, 0] ![1, 2304] inb_S1x2304_S1x2304_0_0).toLoadRect f5 = ws := (View.readAt_full arg5.view f5 inb_S1x2304_S1x2304_0_0).trans hf5
  have e8 : ∀ inb, View.readAt (Elt F) arg8.view (Rect.unit (k0_off1 i) ![1, 512, 2304] inb).toLoadRect f8 = slot Y j :=
    fun inb => (View.readAt_unit arg8.view f8 inb ho (slot_inb j)).trans (by rw [hf8]; rfl)
  have e9 : View.readAt (Elt F) arg9.view (Rect.unit ![0, 0] ![512, 128] inb_S512x128_S512x128_0_0).toLoadRect f9 = R := (View.readAt_full arg9.view f9 inb_S512x128_S512x128_0_0).trans hf9
  have e10 : View.readAt (Elt F) arg10.view (Rect.unit ![0, 0] ![512, 1] inb_S512x1_S512x1_0_0).toLoadRect f10 = I := (View.readAt_full arg10.view f10 inb_S512x1_S512x1_0_0).trans hf10
  simp only [e2, e3, e4, e5, e9, e10]
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact hf7
  isplitl [H8]
  · iexists _; isplitr
    swap; · iexact H8
    ipureintro; exact (View.read_writes_cons_put arg8.view f8 _ _ [] ho).trans (by rw [View.writes_nil, hf8]; rfl)
  isplitl [H9]
  · iexists _; isplitr
    swap; · iexact H9
    ipureintro; exact View.read_writes_full arg9.view f9 inb_S512x128_S512x128_0_0 _ _
  iexists _; isplitr
  swap; · iexact H10
  ipureintro; exact hf10

end Cert.KernelIdeal.Hand

end
-- ==== Proof.KernelIdeal.RunB.lean ====
/-
  The kernel's body at the last point of the first row of tiles: multiply, then the row's scale,
  from any contents of its buffers to the contents it leaves.
-/
module

public import proofs.«01_k».proof.Proof.KernelIdeal.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point of the first row of tiles: multiply, then the row's scale. -/
theorem runB (c : Dev nD) (i : grid0.Coords) (j : Fin 9)
    (arg2 : Memref sig .tc .vmem S512x2432 .fp8e4m3) (harg2 : arg2.IsWhole) (arg3 : Memref sig .tc .vmem S512x1 .f32) (harg3 : arg3.IsWhole)
    (arg4 : Memref sig .tc .vmem S2432x2304 .fp8e4m3) (harg4 : arg4.IsWhole) (arg5 : Memref sig .tc .vmem S1x2304 .f32) (harg5 : arg5.IsWhole)
    (arg6 : Memref sig .tc .vmem S512x1 .f32) (harg6 : arg6.IsWhole) (arg7 : Memref sig .tc .vmem S512x2304 .fp8e4m3) (harg7 : arg7.IsWhole)
    (arg8 : Memref sig .tc .vmem S9x512x2304 .f32) (harg8 : arg8.IsWhole) (arg9 : Memref sig .tc .vmem S512x128 .f32) (harg9 : arg9.IsWhole)
    (arg10 : Memref sig .tc .vmem S512x1 .f32) (harg10 : arg10.IsWhole)
    (h1 : k0_cond1 i = 1#1) (h2 : ¬ k0_cond2 i = 1#1) (h3 : ¬ k0_cond3 i = 1#1) (h4 : k0_cond4 i = 1#1) (ho : k0_off1 i = ![j.val, 0, 0])
    (x : Vec F S512x2432 .fp8e4m3) (xs : Vec F S512x1 .f32) (w : Vec F S2432x2304 .fp8e4m3) (ws : Vec F S1x2304 .f32)
    (s : Vec F S512x1 .f32) (q : Vec F S512x2304 .fp8e4m3)
    (Y : Vec F S9x512x2304 .f32) (R : Vec F S512x128 .f32) (I : Vec F S512x1 .f32) (E : Set ℕ) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare q ∗ owns (c : Thread nD τ) arg8 fullShare Y ∗ owns (c : Thread nD τ) arg9 fullShare R ∗ owns (c : Thread nD τ) arg10 fullShare I
        ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare (scaleOf (rowmax i x w xs ws R)) ∗ owns (c : Thread nD τ) arg7 fullShare q ∗ owns (c : Thread nD τ) arg8 fullShare (setSlot Y j (yslot x w xs ws)) ∗ owns (c : Thread nD τ) arg9 fullShare (rowmax i x w xs ws R) ∗ owns (c : Thread nD τ) arg10 fullShare (invOf (rowmax i x w xs ws R))) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | sl_exact h1 | sl_exact h2 | sl_exact h3 | sl_exact h4)
  sl_step
  dsimp only
  have e2 : View.readAt (Elt F) arg2.view (Rect.unit ![0, 0] ![512, 2432] inb_S512x2432_S512x2432_0_0).toLoadRect f2 = x := (View.readAt_full arg2.view f2 inb_S512x2432_S512x2432_0_0).trans hf2
  have e3 : View.readAt (Elt F) arg3.view (Rect.unit ![0, 0] ![512, 1] inb_S512x1_S512x1_0_0).toLoadRect f3 = xs := (View.readAt_full arg3.view f3 inb_S512x1_S512x1_0_0).trans hf3
  have e4 : View.readAt (Elt F) arg4.view (Rect.unit ![0, 0] ![2432, 2304] inb_S2432x2304_S2432x2304_0_0).toLoadRect f4 = w := (View.readAt_full arg4.view f4 inb_S2432x2304_S2432x2304_0_0).trans hf4
  have e5 : View.readAt (Elt F) arg5.view (Rect.unit ![0, 0] ![1, 2304] inb_S1x2304_S1x2304_0_0).toLoadRect f5 = ws := (View.readAt_full arg5.view f5 inb_S1x2304_S1x2304_0_0).trans hf5
  have e8 : ∀ inb, View.readAt (Elt F) arg8.view (Rect.unit (k0_off1 i) ![1, 512, 2304] inb).toLoadRect f8 = slot Y j :=
    fun inb => (View.readAt_unit arg8.view f8 inb ho (slot_inb j)).trans (by rw [hf8]; rfl)
  have e9 : View.readAt (Elt F) arg9.view (Rect.unit ![0, 0] ![512, 128] inb_S512x128_S512x128_0_0).toLoadRect f9 = R := (View.readAt_full arg9.view f9 inb_S512x128_S512x128_0_0).trans hf9
  have e10 : View.readAt (Elt F) arg10.view (Rect.unit ![0, 0] ![512, 1] inb_S512x1_S512x1_0_0).toLoadRect f10 = I := (View.readAt_full arg10.view f10 inb_S512x1_S512x1_0_0).trans hf10
  have eH : runB.sl.H9_1 c i arg2 arg3 arg4 arg5 arg9 f2 f3 f4 f5 f9 = [⟨Rect.unit ![0, 0] S512x128.size inb_S512x128_S512x128_0_0, rowmax i x w xs ws R⟩] := by
    unfold runB.sl.H9_1
    simp only [e2, e3, e4, e5, e9]
    done
  have e16 : runB.sl.v16 c i arg2 arg3 arg4 arg5 arg9 f2 f3 f4 f5 f9 = rowmax i x w xs ws R := by
    unfold runB.sl.v16
    rw [eH]
    exact View.readCov_full arg9.view _ _ _ _
  simp only [e2, e3, e4, e5, e10, eH]
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact (View.read_writes_full arg6.view f6 inb_S512x1_S512x1_0_0 _ _).trans (congrArg scaleOf e16)
  isplitl [H7]
  · iexists _; isplitr
    swap; · iexact H7
    ipureintro; exact hf7
  isplitl [H8]
  · iexists _; isplitr
    swap; · iexact H8
    ipureintro; exact (View.read_writes_cons_put arg8.view f8 _ _ [] ho).trans (by rw [View.writes_nil, hf8]; rfl)
  isplitl [H9]
  · iexists _; isplitr
    swap; · iexact H9
    ipureintro; exact View.read_writes_full arg9.view f9 inb_S512x128_S512x128_0_0 _ _
  iexists _; isplitr
  swap; · iexact H10
  ipureintro; exact (View.read_writes_full arg10.view f10 inb_S512x1_S512x1_0_0 _ _).trans (congrArg invOf e16)

end Cert.KernelIdeal.Hand

end
-- ==== Proof.KernelIdeal.RunC.lean ====
/-
  The kernel's body at a point of a middle row of tiles, not its last: quantise the row before, then multiply,
  from any contents of its buffers to the contents it leaves.
-/
module

public import proofs.«01_k».proof.Proof.KernelIdeal.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of a middle row of tiles, not its last: quantise the row before, then multiply. -/
theorem runC (c : Dev nD) (i : grid0.Coords) (j : Fin 9)
    (arg2 : Memref sig .tc .vmem S512x2432 .fp8e4m3) (harg2 : arg2.IsWhole) (arg3 : Memref sig .tc .vmem S512x1 .f32) (harg3 : arg3.IsWhole)
    (arg4 : Memref sig .tc .vmem S2432x2304 .fp8e4m3) (harg4 : arg4.IsWhole) (arg5 : Memref sig .tc .vmem S1x2304 .f32) (harg5 : arg5.IsWhole)
    (arg6 : Memref sig .tc .vmem S512x1 .f32) (harg6 : arg6.IsWhole) (arg7 : Memref sig .tc .vmem S512x2304 .fp8e4m3) (harg7 : arg7.IsWhole)
    (arg8 : Memref sig .tc .vmem S9x512x2304 .f32) (harg8 : arg8.IsWhole) (arg9 : Memref sig .tc .vmem S512x128 .f32) (harg9 : arg9.IsWhole)
    (arg10 : Memref sig .tc .vmem S512x1 .f32) (harg10 : arg10.IsWhole)
    (h1 : ¬ k0_cond1 i = 1#1) (h2 : k0_cond2 i = 1#1) (h3 : ¬ k0_cond3 i = 1#1) (h4 : ¬ k0_cond4 i = 1#1) (ho : k0_off2 i = ![j.val, 0, 0])
    (x : Vec F S512x2432 .fp8e4m3) (xs : Vec F S512x1 .f32) (w : Vec F S2432x2304 .fp8e4m3) (ws : Vec F S1x2304 .f32)
    (s : Vec F S512x1 .f32) (q : Vec F S512x2304 .fp8e4m3)
    (Y : Vec F S9x512x2304 .f32) (R : Vec F S512x128 .f32) (I : Vec F S512x1 .f32) (E : Set ℕ) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare q ∗ owns (c : Thread nD τ) arg8 fullShare Y ∗ owns (c : Thread nD τ) arg9 fullShare R ∗ owns (c : Thread nD τ) arg10 fullShare I
        ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare (codesOf (slot Y j) I) ∗ owns (c : Thread nD τ) arg8 fullShare (setSlot Y j (yslot x w xs ws)) ∗ owns (c : Thread nD τ) arg9 fullShare (rowmax i x w xs ws R) ∗ owns (c : Thread nD τ) arg10 fullShare I) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | sl_exact h1 | sl_exact h2 | sl_exact h3 | sl_exact h4)
  sl_step
  dsimp only
  have e2 : View.readAt (Elt F) arg2.view (Rect.unit ![0, 0] ![512, 2432] inb_S512x2432_S512x2432_0_0).toLoadRect f2 = x := (View.readAt_full arg2.view f2 inb_S512x2432_S512x2432_0_0).trans hf2
  have e3 : View.readAt (Elt F) arg3.view (Rect.unit ![0, 0] ![512, 1] inb_S512x1_S512x1_0_0).toLoadRect f3 = xs := (View.readAt_full arg3.view f3 inb_S512x1_S512x1_0_0).trans hf3
  have e4 : View.readAt (Elt F) arg4.view (Rect.unit ![0, 0] ![2432, 2304] inb_S2432x2304_S2432x2304_0_0).toLoadRect f4 = w := (View.readAt_full arg4.view f4 inb_S2432x2304_S2432x2304_0_0).trans hf4
  have e5 : View.readAt (Elt F) arg5.view (Rect.unit ![0, 0] ![1, 2304] inb_S1x2304_S1x2304_0_0).toLoadRect f5 = ws := (View.readAt_full arg5.view f5 inb_S1x2304_S1x2304_0_0).trans hf5
  have e8 : ∀ inb, View.readAt (Elt F) arg8.view (Rect.unit (k0_off2 i) ![1, 512, 2304] inb).toLoadRect f8 = slot Y j :=
    fun inb => (View.readAt_unit arg8.view f8 inb ho (slot_inb j)).trans (by rw [hf8]; rfl)
  have e9 : View.readAt (Elt F) arg9.view (Rect.unit ![0, 0] ![512, 128] inb_S512x128_S512x128_0_0).toLoadRect f9 = R := (View.readAt_full arg9.view f9 inb_S512x128_S512x128_0_0).trans hf9
  have e10 : View.readAt (Elt F) arg10.view (Rect.unit ![0, 0] ![512, 1] inb_S512x1_S512x1_0_0).toLoadRect f10 = I := (View.readAt_full arg10.view f10 inb_S512x1_S512x1_0_0).trans hf10
  simp only [e2, e3, e4, e5, e9, e10]
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact (View.read_writes_full arg7.view f7 inb_S512x2304_S512x2304_0_0 _ _).trans (congrArg (fun v => codesOf v I) (e8 _))
  isplitl [H8]
  · iexists _; isplitr
    swap; · iexact H8
    ipureintro; exact (View.read_writes_cons_put arg8.view f8 _ _ [] ho).trans (by rw [View.writes_nil, hf8]; rfl)
  isplitl [H9]
  · iexists _; isplitr
    swap; · iexact H9
    ipureintro; exact View.read_writes_full arg9.view f9 inb_S512x128_S512x128_0_0 _ _
  iexists _; isplitr
  swap; · iexact H10
  ipureintro; exact hf10

end Cert.KernelIdeal.Hand

end
-- ==== Proof.KernelIdeal.RunD.lean ====
/-
  The kernel's body at the last point of a middle row of tiles: quantise the row before, multiply, then the row's scale,
  from any contents of its buffers to the contents it leaves.
-/
module

public import proofs.«01_k».proof.Proof.KernelIdeal.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point of a middle row of tiles: quantise the row before, multiply, then the row's scale. -/
theorem runD (c : Dev nD) (i : grid0.Coords) (j : Fin 9)
    (arg2 : Memref sig .tc .vmem S512x2432 .fp8e4m3) (harg2 : arg2.IsWhole) (arg3 : Memref sig .tc .vmem S512x1 .f32) (harg3 : arg3.IsWhole)
    (arg4 : Memref sig .tc .vmem S2432x2304 .fp8e4m3) (harg4 : arg4.IsWhole) (arg5 : Memref sig .tc .vmem S1x2304 .f32) (harg5 : arg5.IsWhole)
    (arg6 : Memref sig .tc .vmem S512x1 .f32) (harg6 : arg6.IsWhole) (arg7 : Memref sig .tc .vmem S512x2304 .fp8e4m3) (harg7 : arg7.IsWhole)
    (arg8 : Memref sig .tc .vmem S9x512x2304 .f32) (harg8 : arg8.IsWhole) (arg9 : Memref sig .tc .vmem S512x128 .f32) (harg9 : arg9.IsWhole)
    (arg10 : Memref sig .tc .vmem S512x1 .f32) (harg10 : arg10.IsWhole)
    (h1 : ¬ k0_cond1 i = 1#1) (h2 : k0_cond2 i = 1#1) (h3 : ¬ k0_cond3 i = 1#1) (h4 : k0_cond4 i = 1#1) (ho : k0_off2 i = ![j.val, 0, 0])
    (x : Vec F S512x2432 .fp8e4m3) (xs : Vec F S512x1 .f32) (w : Vec F S2432x2304 .fp8e4m3) (ws : Vec F S1x2304 .f32)
    (s : Vec F S512x1 .f32) (q : Vec F S512x2304 .fp8e4m3)
    (Y : Vec F S9x512x2304 .f32) (R : Vec F S512x128 .f32) (I : Vec F S512x1 .f32) (E : Set ℕ) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare q ∗ owns (c : Thread nD τ) arg8 fullShare Y ∗ owns (c : Thread nD τ) arg9 fullShare R ∗ owns (c : Thread nD τ) arg10 fullShare I
        ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare (scaleOf (rowmax i x w xs ws R)) ∗ owns (c : Thread nD τ) arg7 fullShare (codesOf (slot Y j) I) ∗ owns (c : Thread nD τ) arg8 fullShare (setSlot Y j (yslot x w xs ws)) ∗ owns (c : Thread nD τ) arg9 fullShare (rowmax i x w xs ws R) ∗ owns (c : Thread nD τ) arg10 fullShare (invOf (rowmax i x w xs ws R))) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | sl_exact h1 | sl_exact h2 | sl_exact h3 | sl_exact h4)
  sl_step
  dsimp only
  have e2 : View.readAt (Elt F) arg2.view (Rect.unit ![0, 0] ![512, 2432] inb_S512x2432_S512x2432_0_0).toLoadRect f2 = x := (View.readAt_full arg2.view f2 inb_S512x2432_S512x2432_0_0).trans hf2
  have e3 : View.readAt (Elt F) arg3.view (Rect.unit ![0, 0] ![512, 1] inb_S512x1_S512x1_0_0).toLoadRect f3 = xs := (View.readAt_full arg3.view f3 inb_S512x1_S512x1_0_0).trans hf3
  have e4 : View.readAt (Elt F) arg4.view (Rect.unit ![0, 0] ![2432, 2304] inb_S2432x2304_S2432x2304_0_0).toLoadRect f4 = w := (View.readAt_full arg4.view f4 inb_S2432x2304_S2432x2304_0_0).trans hf4
  have e5 : View.readAt (Elt F) arg5.view (Rect.unit ![0, 0] ![1, 2304] inb_S1x2304_S1x2304_0_0).toLoadRect f5 = ws := (View.readAt_full arg5.view f5 inb_S1x2304_S1x2304_0_0).trans hf5
  have e8 : ∀ inb, View.readAt (Elt F) arg8.view (Rect.unit (k0_off2 i) ![1, 512, 2304] inb).toLoadRect f8 = slot Y j :=
    fun inb => (View.readAt_unit arg8.view f8 inb ho (slot_inb j)).trans (by rw [hf8]; rfl)
  have e9 : View.readAt (Elt F) arg9.view (Rect.unit ![0, 0] ![512, 128] inb_S512x128_S512x128_0_0).toLoadRect f9 = R := (View.readAt_full arg9.view f9 inb_S512x128_S512x128_0_0).trans hf9
  have e10 : View.readAt (Elt F) arg10.view (Rect.unit ![0, 0] ![512, 1] inb_S512x1_S512x1_0_0).toLoadRect f10 = I := (View.readAt_full arg10.view f10 inb_S512x1_S512x1_0_0).trans hf10
  have eH : runD.sl.H9_1 c i arg2 arg3 arg4 arg5 arg9 f2 f3 f4 f5 f9 = [⟨Rect.unit ![0, 0] S512x128.size inb_S512x128_S512x128_0_0, rowmax i x w xs ws R⟩] := by
    unfold runD.sl.H9_1
    simp only [e2, e3, e4, e5, e9]
    rfl
  have e16 : runD.sl.v16 c i arg2 arg3 arg4 arg5 arg9 f2 f3 f4 f5 f9 = rowmax i x w xs ws R := by
    unfold runD.sl.v16
    rw [eH]
    exact View.readCov_full arg9.view _ _ _ _
  simp only [e2, e3, e4, e5, e10, eH]
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact (View.read_writes_full arg6.view f6 inb_S512x1_S512x1_0_0 _ _).trans (congrArg scaleOf e16)
  isplitl [H7]
  · iexists _; isplitr
    swap; · iexact H7
    ipureintro; exact (View.read_writes_full arg7.view f7 inb_S512x2304_S512x2304_0_0 _ _).trans (congrArg (fun v => codesOf v I) (e8 _))
  isplitl [H8]
  · iexists _; isplitr
    swap; · iexact H8
    ipureintro; exact (View.read_writes_cons_put arg8.view f8 _ _ [] ho).trans (by rw [View.writes_nil, hf8]; rfl)
  isplitl [H9]
  · iexists _; isplitr
    swap; · iexact H9
    ipureintro; exact View.read_writes_full arg9.view f9 inb_S512x128_S512x128_0_0 _ _
  iexists _; isplitr
  swap; · iexact H10
  ipureintro; exact (View.read_writes_full arg10.view f10 inb_S512x1_S512x1_0_0 _ _).trans (congrArg invOf e16)

end Cert.KernelIdeal.Hand

end
-- ==== Proof.KernelIdeal.RunE.lean ====
/-
  The kernel's body at a point of the draining row: quantise the last row of tiles,
  from any contents of its buffers to the contents it leaves.
-/
module

public import proofs.«01_k».proof.Proof.KernelIdeal.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point of the draining row: quantise the last row of tiles. -/
theorem runE (c : Dev nD) (i : grid0.Coords) (j : Fin 9)
    (arg2 : Memref sig .tc .vmem S512x2432 .fp8e4m3) (harg2 : arg2.IsWhole) (arg3 : Memref sig .tc .vmem S512x1 .f32) (harg3 : arg3.IsWhole)
    (arg4 : Memref sig .tc .vmem S2432x2304 .fp8e4m3) (harg4 : arg4.IsWhole) (arg5 : Memref sig .tc .vmem S1x2304 .f32) (harg5 : arg5.IsWhole)
    (arg6 : Memref sig .tc .vmem S512x1 .f32) (harg6 : arg6.IsWhole) (arg7 : Memref sig .tc .vmem S512x2304 .fp8e4m3) (harg7 : arg7.IsWhole)
    (arg8 : Memref sig .tc .vmem S9x512x2304 .f32) (harg8 : arg8.IsWhole) (arg9 : Memref sig .tc .vmem S512x128 .f32) (harg9 : arg9.IsWhole)
    (arg10 : Memref sig .tc .vmem S512x1 .f32) (harg10 : arg10.IsWhole)
    (h1 : ¬ k0_cond1 i = 1#1) (h2 : ¬ k0_cond2 i = 1#1) (h3 : k0_cond3 i = 1#1) (h4 : ¬ k0_cond4 i = 1#1) (ho : k0_off3 i = ![j.val, 0, 0])
    (x : Vec F S512x2432 .fp8e4m3) (xs : Vec F S512x1 .f32) (w : Vec F S2432x2304 .fp8e4m3) (ws : Vec F S1x2304 .f32)
    (s : Vec F S512x1 .f32) (q : Vec F S512x2304 .fp8e4m3)
    (Y : Vec F S9x512x2304 .f32) (R : Vec F S512x128 .f32) (I : Vec F S512x1 .f32) (E : Set ℕ) (K : PUnit → sProp 𝕄) :
    iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare q ∗ owns (c : Thread nD τ) arg8 fullShare Y ∗ owns (c : Thread nD τ) arg9 fullShare R ∗ owns (c : Thread nD τ) arg10 fullShare I
        ∗ (iprop(owns (c : Thread nD τ) arg2 fullShare x ∗ owns (c : Thread nD τ) arg3 fullShare xs ∗ owns (c : Thread nD τ) arg4 fullShare w ∗ owns (c : Thread nD τ) arg5 fullShare ws ∗ owns (c : Thread nD τ) arg6 fullShare s ∗ owns (c : Thread nD τ) arg7 fullShare (codesOf (slot Y j) I) ∗ owns (c : Thread nD τ) arg8 fullShare Y ∗ owns (c : Thread nD τ) arg9 fullShare R ∗ owns (c : Thread nD τ) arg10 fullShare I) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton, k0_part2_eq_skeleton, k0_part3_eq_skeleton, k0_part4_eq_skeleton]
  unfold k0_part1_skel k0_part2_skel k0_part3_skel k0_part4_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  sl_exec (disch := first | sl_exact h1 | sl_exact h2 | sl_exact h3 | sl_exact h4)
  sl_step
  dsimp only
  have e2 : View.readAt (Elt F) arg2.view (Rect.unit ![0, 0] ![512, 2432] inb_S512x2432_S512x2432_0_0).toLoadRect f2 = x := (View.readAt_full arg2.view f2 inb_S512x2432_S512x2432_0_0).trans hf2
  have e3 : View.readAt (Elt F) arg3.view (Rect.unit ![0, 0] ![512, 1] inb_S512x1_S512x1_0_0).toLoadRect f3 = xs := (View.readAt_full arg3.view f3 inb_S512x1_S512x1_0_0).trans hf3
  have e4 : View.readAt (Elt F) arg4.view (Rect.unit ![0, 0] ![2432, 2304] inb_S2432x2304_S2432x2304_0_0).toLoadRect f4 = w := (View.readAt_full arg4.view f4 inb_S2432x2304_S2432x2304_0_0).trans hf4
  have e5 : View.readAt (Elt F) arg5.view (Rect.unit ![0, 0] ![1, 2304] inb_S1x2304_S1x2304_0_0).toLoadRect f5 = ws := (View.readAt_full arg5.view f5 inb_S1x2304_S1x2304_0_0).trans hf5
  have e8 : ∀ inb, View.readAt (Elt F) arg8.view (Rect.unit (k0_off3 i) ![1, 512, 2304] inb).toLoadRect f8 = slot Y j :=
    fun inb => (View.readAt_unit arg8.view f8 inb ho (slot_inb j)).trans (by rw [hf8]; rfl)
  have e9 : View.readAt (Elt F) arg9.view (Rect.unit ![0, 0] ![512, 128] inb_S512x128_S512x128_0_0).toLoadRect f9 = R := (View.readAt_full arg9.view f9 inb_S512x128_S512x128_0_0).trans hf9
  have e10 : View.readAt (Elt F) arg10.view (Rect.unit ![0, 0] ![512, 1] inb_S512x1_S512x1_0_0).toLoadRect f10 = I := (View.readAt_full arg10.view f10 inb_S512x1_S512x1_0_0).trans hf10
  simp only [e2, e3, e4, e5, e9, e10]
  iapply Hk
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro; exact (View.read_writes_full arg7.view f7 inb_S512x2304_S512x2304_0_0 _ _).trans (congrArg (fun v => codesOf v I) (e8 _))
  isplitl [H8]
  · iexists _; isplitr
    swap; · iexact H8
    ipureintro; exact hf8
  isplitl [H9]
  · iexists _; isplitr
    swap; · iexact H9
    ipureintro; exact hf9
  iexists _; isplitr
  swap; · iexact H10
  ipureintro; exact hf10

end Cert.KernelIdeal.Hand

end
-- ==== Proof.KernelIdeal.Body.lean ====
/-
  The kernel's body meets its obligation at every point of the grid.
-/
module

public import proofs.«01_k».proof.Proof.KernelIdeal.Data
public import proofs.«01_k».proof.Proof.KernelIdeal.RunA
public import proofs.«01_k».proof.Proof.KernelIdeal.RunB
public import proofs.«01_k».proof.Proof.KernelIdeal.RunC
public import proofs.«01_k».proof.Proof.KernelIdeal.RunD
public import proofs.«01_k».proof.Proof.KernelIdeal.RunE

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body at each kind of point -/

set_option maxHeartbeats 4800000 in
/-- The body's obligation at a point of the first row of tiles, not its last: multiply. -/
theorem sound_A (c : Dev nD) (t : Fin cfg0.N) (h9 : t.val < 9) (h8 : t.val % 9 ≠ 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0, leaves1, leaves2, leaves3]
  rw [idle4_eq m c t (by omega)]
  rw [idle5_eq m c t h9]
  rw [show (dats m 0 c).owesAt () t.succ = (dats m 0 c).owesAt () t.castSucc from rfl]
  rw [Phi_castSucc, Phi_succ]
  unfold PhiN
  iintro ⟨⟨%Y, %R, %I, %hI, HY, HR, HI, Hg⟩, Ho, ⟨%d0, H0⟩, ⟨%d1, H1⟩, ⟨%d2, H2⟩, ⟨%d3, H3⟩, ⟨%d4, H4⟩, ⟨%d5, H5⟩⟩
  iapply (runA c (grid0.coords t) (col t) _ _ _ _ _ _ _ _ _ _ _ _ _ _ _ _ _ _ (by rw [cond1_iff]; omega) (by rw [cond2_iff]; omega) (by rw [cond3_iff]; omega) (by rw [cond4_iff]; omega) (off1_eq t) (bx m c t) (bxs m c t) (bw m c t) (bws m c t) _ _ Y R I Set.univ _)
  isplitl [H0]; · iexact H0
  isplitl [H1]; · iexact H1
  isplitl [H2]; · iexact H2
  isplitl [H3]; · iexact H3
  isplitl [H4]; · iexact H4
  isplitl [H5]; · iexact H5
  isplitl [HY]; · iexact HY
  isplitl [HR]; · iexact HR
  isplitl [HI]; · iexact HI
  iintro ⟨H0, H1, H2, H3, H4, H5, HY, HR, HI⟩
  isplitl [HY HR HI Hg]
  · iexists _, _, _
    isplitr
    swap
    · isplitl [HY]; · iexact HY
      isplitl [HR]; · iexact HR
      isplitl [HI]; · iexact HI
      iexact Hg
    ipureintro; exact hI.mul (by omega) h8
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4800000 in
/-- The body's obligation at the last point of the first row of tiles: multiply, then the row's scale. -/
theorem sound_B (c : Dev nD) (t : Fin cfg0.N) (h9 : t.val < 9) (h8 : t.val % 9 = 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0, leaves1, leaves2, leaves3]
  rw [live4 m c t ⟨by omega, h8⟩]
  rw [idle5_eq m c t h9]
  rw [show (dats m 0 c).owesAt () t.succ = (dats m 0 c).owesAt () t.castSucc from rfl]
  rw [Phi_castSucc, Phi_succ]
  unfold PhiN
  iintro ⟨⟨%Y, %R, %I, %hI, HY, HR, HI, Hg⟩, Ho, ⟨%d0, H0⟩, ⟨%d1, H1⟩, ⟨%d2, H2⟩, ⟨%d3, H3⟩, ⟨%d4, H4⟩, ⟨%d5, H5⟩⟩
  iapply (runB c (grid0.coords t) (col t) _ _ _ _ _ _ _ _ _ _ _ _ _ _ _ _ _ _ (by rw [cond1_iff]; omega) (by rw [cond2_iff]; omega) (by rw [cond3_iff]; omega) (by rw [cond4_iff]; omega) (off1_eq t) (bx m c t) (bxs m c t) (bw m c t) (bws m c t) _ _ Y R I Set.univ _)
  isplitl [H0]; · iexact H0
  isplitl [H1]; · iexact H1
  isplitl [H2]; · iexact H2
  isplitl [H3]; · iexact H3
  isplitl [H4]; · iexact H4
  isplitl [H5]; · iexact H5
  isplitl [HY]; · iexact HY
  isplitl [HR]; · iexact HR
  isplitl [HI]; · iexact HI
  iintro ⟨H0, H1, H2, H3, H4, H5, HY, HR, HI⟩
  isplitl [HY HR HI Hg]
  · iexists _, _, _
    isplitr
    swap
    · isplitl [HY]; · iexact HY
      isplitl [HR]; · iexact HR
      isplitl [HI]; · iexact HI
      iexact Hg
    ipureintro; exact hI.mul_last (by omega) h8
  isplitl [Ho]; · iexact Ho
  isplitl [H0]; · iexact H0
  isplitl [H1]; · iexact H1
  isplitl [H2]; · iexact H2
  isplitl [H3]; · iexact H3
  isplitl [H4]
  · rw [after0_4, ← hI.scale (by omega) h8]; iexact H4
  iexists _; iexact H5

set_option maxHeartbeats 4800000 in
/-- The body's obligation at a point of a middle row of tiles, not its last: quantise the row before, then multiply. -/
theorem sound_C (c : Dev nD) (t : Fin cfg0.N) (h9 : 9 ≤ t.val) (h36 : t.val < 36) (h8 : t.val % 9 ≠ 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0, leaves1, leaves2, leaves3]
  rw [idle4_eq m c t (by omega)]
  rw [live5 m c t (by omega)]
  rw [show (dats m 0 c).owesAt () t.succ = (dats m 0 c).owesAt () t.castSucc from rfl]
  rw [Phi_castSucc, Phi_succ]
  unfold PhiN
  iintro ⟨⟨%Y, %R, %I, %hI, HY, HR, HI, Hg⟩, Ho, ⟨%d0, H0⟩, ⟨%d1, H1⟩, ⟨%d2, H2⟩, ⟨%d3, H3⟩, ⟨%d4, H4⟩, ⟨%d5, H5⟩⟩
  iapply (runC c (grid0.coords t) (col t) _ _ _ _ _ _ _ _ _ _ _ _ _ _ _ _ _ _ (by rw [cond1_iff]; omega) (by rw [cond2_iff]; omega) (by rw [cond3_iff]; omega) (by rw [cond4_iff]; omega) (off2_eq t) (bx m c t) (bxs m c t) (bw m c t) (bws m c t) _ _ Y R I Set.univ _)
  isplitl [H0]; · iexact H0
  isplitl [H1]; · iexact H1
  isplitl [H2]; · iexact H2
  isplitl [H3]; · iexact H3
  isplitl [H4]; · iexact H4
  isplitl [H5]; · iexact H5
  isplitl [HY]; · iexact HY
  isplitl [HR]; · iexact HR
  isplitl [HI]; · iexact HI
  iintro ⟨H0, H1, H2, H3, H4, H5, HY, HR, HI⟩
  isplitl [HY HR HI Hg]
  · iexists _, _, _
    isplitr
    swap
    · isplitl [HY]; · iexact HY
      isplitl [HR]; · iexact HR
      isplitl [HI]; · iexact HI
      iexact Hg
    ipureintro; exact hI.mul (by omega) h8
  isplitl [Ho]; · iexact Ho
  isplitl [H0]; · iexact H0
  isplitl [H1]; · iexact H1
  isplitl [H2]; · iexact H2
  isplitl [H3]; · iexact H3
  isplitl [H4]; · iexists _; iexact H4
  rw [after0_5, ← hI.read (by omega)]; iexact H5

set_option maxHeartbeats 4800000 in
/-- The body's obligation at the last point of a middle row of tiles: quantise the row before, multiply, then the row's scale. -/
theorem sound_D (c : Dev nD) (t : Fin cfg0.N) (h9 : 9 ≤ t.val) (h36 : t.val < 36) (h8 : t.val % 9 = 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0, leaves1, leaves2, leaves3]
  rw [live4 m c t ⟨by omega, h8⟩]
  rw [live5 m c t (by omega)]
  rw [show (dats m 0 c).owesAt () t.succ = (dats m 0 c).owesAt () t.castSucc from rfl]
  rw [Phi_castSucc, Phi_succ]
  unfold PhiN
  iintro ⟨⟨%Y, %R, %I, %hI, HY, HR, HI, Hg⟩, Ho, ⟨%d0, H0⟩, ⟨%d1, H1⟩, ⟨%d2, H2⟩, ⟨%d3, H3⟩, ⟨%d4, H4⟩, ⟨%d5, H5⟩⟩
  iapply (runD c (grid0.coords t) (col t) _ _ _ _ _ _ _ _ _ _ _ _ _ _ _ _ _ _ (by rw [cond1_iff]; omega) (by rw [cond2_iff]; omega) (by rw [cond3_iff]; omega) (by rw [cond4_iff]; omega) (off2_eq t) (bx m c t) (bxs m c t) (bw m c t) (bws m c t) _ _ Y R I Set.univ _)
  isplitl [H0]; · iexact H0
  isplitl [H1]; · iexact H1
  isplitl [H2]; · iexact H2
  isplitl [H3]; · iexact H3
  isplitl [H4]; · iexact H4
  isplitl [H5]; · iexact H5
  isplitl [HY]; · iexact HY
  isplitl [HR]; · iexact HR
  isplitl [HI]; · iexact HI
  iintro ⟨H0, H1, H2, H3, H4, H5, HY, HR, HI⟩
  isplitl [HY HR HI Hg]
  · iexists _, _, _
    isplitr
    swap
    · isplitl [HY]; · iexact HY
      isplitl [HR]; · iexact HR
      isplitl [HI]; · iexact HI
      iexact Hg
    ipureintro; exact hI.mul_last (by omega) h8
  isplitl [Ho]; · iexact Ho
  isplitl [H0]; · iexact H0
  isplitl [H1]; · iexact H1
  isplitl [H2]; · iexact H2
  isplitl [H3]; · iexact H3
  isplitl [H4]
  · rw [after0_4, ← hI.scale (by omega) h8]; iexact H4
  rw [after0_5, ← hI.read (by omega)]; iexact H5

set_option maxHeartbeats 4800000 in
/-- The body's obligation at a point of the draining row: quantise the last row of tiles. -/
theorem sound_E (c : Dev nD) (t : Fin cfg0.N) (h36 : 36 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [leaves0, leaves1, leaves2, leaves3]
  rw [live5 m c t (by omega)]
  rw [show (dats m 0 c).owesAt () t.succ = (dats m 0 c).owesAt () t.castSucc from rfl]
  rw [Phi_castSucc, Phi_succ]
  unfold PhiN
  iintro ⟨⟨%Y, %R, %I, %hI, HY, HR, HI, Hg⟩, Ho, ⟨%d0, H0⟩, ⟨%d1, H1⟩, ⟨%d2, H2⟩, ⟨%d3, H3⟩, ⟨%d4, H4⟩, ⟨%d5, H5⟩⟩
  iapply (runE c (grid0.coords t) (col t) _ _ _ _ _ _ _ _ _ _ _ _ _ _ _ _ _ _ (by rw [cond1_iff]; omega) (by rw [cond2_iff]; omega) (by rw [cond3_iff]; omega) (by rw [cond4_iff]; omega) (off3_eq t) (bx m c t) (bxs m c t) (bw m c t) (bws m c t) _ _ Y R I Set.univ _)
  isplitl [H0]; · iexact H0
  isplitl [H1]; · iexact H1
  isplitl [H2]; · iexact H2
  isplitl [H3]; · iexact H3
  isplitl [H4]; · iexact H4
  isplitl [H5]; · iexact H5
  isplitl [HY]; · iexact HY
  isplitl [HR]; · iexact HR
  isplitl [HI]; · iexact HI
  iintro ⟨H0, H1, H2, H3, H4, H5, HY, HR, HI⟩
  isplitl [HY HR HI Hg]
  · iexists _, _, _
    isplitr
    swap
    · isplitl [HY]; · iexact HY
      isplitl [HR]; · iexact HR
      isplitl [HI]; · iexact HI
      iexact Hg
    ipureintro; exact hI.drain h36
  isplitl [Ho]; · iexact Ho
  isplitl [H0]; · iexact H0
  isplitl [H1]; · iexact H1
  isplitl [H2]; · iexact H2
  isplitl [H3]; · iexact H3
  isplitl [H4]
  · by_cases h8 : t.val % 9 = 8
    · rw [flush4_eq m c t h36 h8, before4 m c t h36]; iexact H4
    · rw [idle4_eq m c t (by omega)]; iexists _; iexact H4
  rw [after0_5, ← hI.read (by omega)]; iexact H5

/-- The body's obligation at every point. -/
theorem sound_body (c : Dev nD) (t : Fin cfg0.N) :
    bodyPre m c t ⊢ wp frame (wpE (defs₀ (F := F)) Variants.none c none) Set.univ (bodyAt0 t) (fun _ => bodyPost m c t) := by
  by_cases h9 : t.val < 9
  · by_cases h8 : t.val % 9 = 8
    · exact sound_B m c t h9 h8
    · exact sound_A m c t h9 h8
  by_cases h36 : t.val < 36
  · by_cases h8 : t.val % 9 = 8
    · exact sound_D m c t (by omega) h36 h8
    · exact sound_C m c t (by omega) h36 h8
  exact sound_E m c t (by omega)

/-- The body's definition at a point. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.KernelIdeal.Run.lean ====
/-
  The kernel's run: it terminates, leaves its arguments as they were, every counter at zero, and its results at
  what the proof data says.
-/
module

public import proofs.«01_k».proof.Proof.KernelIdeal.Body
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's own invariant, the scratch as memrefs owned at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the launch hands the region is the invariant before the first point. -/
theorem hin (c : Dev nD) : Pipeline.ΦA spec0 c ⊢ (dats m 0 c).Φ 0 := by
  rw [show (dats m 0 c).Φ 0 = PhiN m c 0 from rfl, PhiA0_eq]
  unfold PhiN
  iintro ⟨⟨⟨%Y, HY⟩, ⟨%R, HR⟩, ⟨%I, HI⟩⟩, Hg⟩
  iexists Y, R, I
  isplitr
  · ipureintro; exact Inv.zero m c Y R I
  isplitl [HY]; · iexact HY
  isplitl [HR]; · iexact HR
  isplitl [HI]; · iexact HI
  iexact Hg

/-- After the last point the invariant gives it back. -/
theorem hout (c : Dev nD) : (dats m 0 c).Φ (Fin.last cfg0.N) ⊢ Pipeline.ΦA spec0 c := by
  rw [show (dats m 0 c).Φ (Fin.last cfg0.N) = PhiN m c (Fin.last cfg0.N).val from rfl, PhiA0_eq]
  unfold PhiN
  iintro ⟨%Y, %R, %I, %hI, HY, HR, HI, Hg⟩
  isplitl [HY HR HI]
  · isplitl [HY]; · iexists _; iexact HY
    isplitl [HR]; · iexists _; iexact HR
    iexists _; iexact HI
  iexact Hg

set_option backward.isDefEq.respectTransparency.types false in
/-- The launch: every execution ends with the arrays at what the proof data computes and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Spec.Scale.lean ====
/-
  The exponent of a row's scale, as an integer, and the two ways of computing it: the kernel's search over the
  powers of two, word by word, and the reference's rounded-down logarithm. Both give the same two powers of two.
-/
module

public import proofs.«01_k».proof.ReferenceIdeal
public import Idealize.ShloMosaic.Lib.IdealHost

@[expose] public section

noncomputable section

namespace Cert.Spec

open Idealize.ShloMosaic

/-! ## Powers of two -/

/-- The real power of two with an integer exponent, as an extended real. -/
def pow2 (z : ℤ) : EReal := (((2 : ℝ) ^ z : ℝ) : EReal)

/-- A larger exponent gives a larger power. -/
theorem pow2_mono {a b : ℤ} (h : a ≤ b) : pow2 a ≤ pow2 b :=
  EReal.coe_le_coe_iff.mpr (zpow_le_zpow_right₀ (by norm_num) h)

/-- The sign, exponent and fraction fields of a word with nothing but an exponent field. -/
theorem word_fields : ∀ n : Fin 255,
    ((BitVec.ofNat 32 n.val <<< 23).extractLsb' 31 1 == 1#1) = false ∧ ((BitVec.ofNat 32 n.val <<< 23).extractLsb' 23 8).toNat = n.val
      ∧ ((BitVec.ofNat 32 n.val <<< 23).extractLsb' 0 23).toNat = 0 := by decide +kernel

/-- A 32-bit float word with a clear sign, an exponent field `n` of a normal number and an empty fraction is the power of two `n - 127`. -/
theorem ieee_pow2 (b : BitVec 32) (n : ℕ) (hn : (b.extractLsb' 31 1 == 1#1) = false) (he : (b.extractLsb' 23 8).toNat = n)
    (hf : (b.extractLsb' 0 23).toNat = 0) (h1 : n ≠ 255) (h2 : n ≠ 0) : Ideal.ieee 8 23 b = pow2 ((n : ℤ) - 127) := by
  have e : (2 : ℝ) ^ ((n : ℤ) - 127) = (2 : ℝ) ^ (23 : ℤ) * (2 : ℝ) ^ ((n : ℤ) - 127 - 23) := by
    rw [← zpow_add₀ (by norm_num : (2 : ℝ) ≠ 0)]; congr 1; ring
  have h255 : ¬ n = 2 ^ 8 - 1 := h1
  unfold Ideal.ieee pow2
  dsimp only
  rw [show (8 + 23) = 31 from rfl, hn, he, hf, if_neg h255, if_neg h2, e]
  norm_num

/-- A word with nothing but an exponent field `n` is the power of two `n - 127`. -/
theorem ofBits_pow2 (n : ℕ) (h1 : 1 ≤ n) (h2 : n ≤ 254) : Ideal.ofBits .f32 (IntOp.shli .vector (BitVec.ofNat 32 n) 23#32) = pow2 ((n : ℤ) - 127) := by
  obtain ⟨ha, hb, hc⟩ := word_fields ⟨n, by omega⟩
  have hs : IntOp.shli .vector (BitVec.ofNat 32 n) 23#32 = BitVec.ofNat 32 n <<< 23 := by
    unfold IntOp.shli
    rw [if_pos (by decide)]; rfl
  rw [hs]
  exact ieee_pow2 _ n ha hb hc (by omega) (by omega)

/-- The same from the exponent's word, the bias added. -/
theorem ofBits_word (z : ℤ) (h1 : -126 ≤ z) (h2 : z ≤ 127) :
    Ideal.ofBits .f32 (IntOp.shli .vector (IntOp.addi (BitVec.ofInt 32 z) 127#32) 23#32) = pow2 z := by
  have e : IntOp.addi (BitVec.ofInt 32 z) 127#32 = BitVec.ofNat 32 (z + 127).toNat := by
    show BitVec.ofInt 32 z + BitVec.ofInt 32 127 = _
    rw [← BitVec.ofInt_add, ← BitVec.ofInt_natCast, Int.toNat_of_nonneg (by omega)]
  rw [e, ofBits_pow2 _ (by omega) (by omega), Int.toNat_of_nonneg (by omega)]
  congr 1; ring

/-! ## The exponent -/

/-- The factor the row maximum is multiplied by. -/
abbrev c448 : EReal := Ideal.ofBits .f32 0x3B124925#32

/-- The logarithm to base two. -/
def log2 (r : ℝ) : ℝ := Real.log r * (Real.log 2)⁻¹

/-- The exponent of the scale of a row whose largest magnitude is `a`: zero for a zero row and where `a * c448` is below the
    normal numbers or infinite, otherwise one more than the logarithm to base two of `a * c448` rounded down, at most 126. -/
def expo (a : EReal) : ℤ :=
  if a = 0 then 0 else if pow2 (-126) ≤ a * c448 ∧ a * c448 < ⊤ then min 126 (⌊log2 (a * c448).toReal⌋ + 1) else 0

/-! ## The kernel's search -/

/-- One step of the search: the exponent moves up by `s` when the power of two just below reaches `t`. -/
def kstep (t : EReal) (e s : BitVec 32) : BitVec 32 :=
  Scalar.select (FloatOps.cmpf (F := Ideal) (φ := .f32) .oge t
    (FloatOps.ofBits .f32 (IntOp.shli .vector (IntOp.addi (IntOp.subi (IntOp.addi e s) 1#32) 127#32) 23#32))) (IntOp.addi e s) e

/-- What the search keeps: `z` has been reached, and at most `r` more can be. -/
structure Reach (t : EReal) (z : ℤ) (r : ℕ) : Prop where
  lo : -126 ≤ z
  hi : z + r ≤ 126
  below : z = -126 ∨ pow2 (z - 1) ≤ t
  above : z + r = 126 ∨ ¬ pow2 (z + r) ≤ t

/-- One step of at most one more than what the later steps add up to keeps the invariant. -/
theorem kstep_reach {t : EReal} {z : ℤ} {r s : ℕ} (h : Reach t z r) (h1 : 1 ≤ s) (h2 : s ≤ r) (h3 : s - 1 ≤ r - s) :
    ∃ z' : ℤ, kstep t (BitVec.ofInt 32 z) (BitVec.ofNat 32 s) = BitVec.ofInt 32 z' ∧ Reach t z' (r - s) := by
  obtain ⟨lo, hi, below, above⟩ := h
  have e1 : IntOp.addi (BitVec.ofInt 32 z) (BitVec.ofNat 32 s) = BitVec.ofInt 32 (z + s) := by
    show _ + _ = _
    rw [BitVec.ofInt_add, BitVec.ofInt_natCast]
  have e2 : IntOp.subi (BitVec.ofInt 32 (z + s)) 1#32 = BitVec.ofInt 32 (z + s - 1) := by
    show BitVec.ofInt 32 (z + s) - BitVec.ofInt 32 1 = _
    rw [eq_comm, BitVec.eq_sub_iff_add_eq, ← BitVec.ofInt_add]
    congr 1; ring
  have e3 : FloatOps.ofBits (F := Ideal) .f32 (IntOp.shli .vector (IntOp.addi (BitVec.ofInt 32 (z + s - 1)) 127#32) 23#32) = pow2 (z + s - 1) :=
    ofBits_word _ (by omega) (by omega)
  unfold kstep
  rw [e1, e2, e3]
  by_cases hp : pow2 (z + s - 1) ≤ t
  · refine ⟨z + s, ?_, by omega, by omega, Or.inr hp, ?_⟩
    · show Scalar.select (BitVec.ofBool (decide (pow2 (z + s - 1) ≤ t))) _ _ = _
      simp [hp, Scalar.select]
    · have : z + s + ((r - s : ℕ) : ℤ) = z + r := by omega
      rw [this]; exact above
  · refine ⟨z, ?_, lo, by omega, below, Or.inr fun hq => hp (le_trans (pow2_mono (by omega)) hq)⟩
    show Scalar.select (BitVec.ofBool (decide (pow2 (z + s - 1) ≤ t))) _ _ = _
    simp [hp, Scalar.select]

/-- The eight steps. -/
def ksearch (t : EReal) : BitVec 32 :=
  kstep t (kstep t (kstep t (kstep t (kstep t (kstep t (kstep t (kstep t 4294967170#32 126#32) 63#32) 32#32) 16#32) 8#32) 4#32) 2#32) 1#32

/-- After the eight steps nothing more can be reached. -/
theorem ksearch_reach (t : EReal) : ∃ z : ℤ, ksearch t = BitVec.ofInt 32 z ∧ Reach t z 0 := by
  have h0 : Reach t (-126) 252 := ⟨by omega, by omega, Or.inl rfl, Or.inl (by norm_num)⟩
  obtain ⟨z1, e1, h1⟩ := kstep_reach (s := 126) h0 (by omega) (by omega) (by omega)
  obtain ⟨z2, e2, h2⟩ := kstep_reach (s := 63) h1 (by omega) (by omega) (by omega)
  obtain ⟨z3, e3, h3⟩ := kstep_reach (s := 32) h2 (by omega) (by omega) (by omega)
  obtain ⟨z4, e4, h4⟩ := kstep_reach (s := 16) h3 (by omega) (by omega) (by omega)
  obtain ⟨z5, e5, h5⟩ := kstep_reach (s := 8) h4 (by omega) (by omega) (by omega)
  obtain ⟨z6, e6, h6⟩ := kstep_reach (s := 4) h5 (by omega) (by omega) (by omega)
  obtain ⟨z7, e7, h7⟩ := kstep_reach (s := 2) h6 (by omega) (by omega) (by omega)
  obtain ⟨z8, e8, h8⟩ := kstep_reach (s := 1) h7 (by omega) (by omega) (by omega)
  refine ⟨z8, ?_, h8⟩
  have hm : (4294967170#32 : BitVec 32) = BitVec.ofInt 32 (-126) := by decide
  unfold ksearch
  rw [hm, e1, e2, e3, e4, e5, e6, e7, e8]

/-- A power of two is at most a positive real when its exponent is at most the logarithm rounded down. -/
theorem pow2_le_iff {r : ℝ} (hr : 0 < r) (k : ℤ) : pow2 k ≤ (r : EReal) ↔ k ≤ ⌊log2 r⌋ := by
  unfold pow2
  have h2 : 0 < Real.log 2 := Real.log_pos (by norm_num)
  unfold log2
  rw [EReal.coe_le_coe_iff, Int.le_floor, ← div_eq_mul_inv, le_div_iff₀ h2, ← Real.log_zpow, Real.log_le_log_iff (by positivity) hr]

/-- The smallest normal number is positive. -/
theorem tiny_pos : 0 < pow2 (-126) := EReal.coe_pos.mpr (by positivity)

/-- The exponent is that of a normal number whose inverse is normal too. -/
theorem expo_range (a : EReal) : -126 ≤ expo a ∧ expo a ≤ 126 := by
  unfold expo
  split_ifs with h0 h1
  · omega
  · obtain ⟨hp, ht⟩ := h1
    have h0 := lt_of_lt_of_le tiny_pos hp
    lift a * c448 to ℝ using ⟨ht.ne, (lt_trans EReal.bot_lt_zero h0).ne'⟩ with r
    rw [pow2_le_iff (EReal.coe_pos.mp h0)] at hp
    rw [EReal.toReal_coe]
    omega
  · omega

/-- On a real that is at least the smallest normal number the search finds one more than the logarithm rounded down, at most 126. -/
theorem ksearch_eq {r : ℝ} (hr : 0 < r) (hp : -126 ≤ ⌊log2 r⌋) : ksearch (r : EReal) = BitVec.ofInt 32 (min 126 (⌊log2 r⌋ + 1)) := by
  obtain ⟨z, e, lo, hi, below, above⟩ := ksearch_reach (r : EReal)
  rw [e]
  congr 1
  rw [pow2_le_iff hr] at below above
  simp only [Nat.cast_zero, add_zero] at *
  omega

/-- The kernel's exponent word from the row maximum `a`. -/
def kexp (a : EReal) : BitVec 32 :=
  Scalar.select (FloatOps.cmpf (F := Ideal) (φ := .f32) .oeq a (FloatOps.ofBits .f32 0x00000000#32)) 0#32
    (Scalar.select (IntOp.andi (FloatOps.cmpf (F := Ideal) (φ := .f32) .oge (a * c448) (FloatOps.ofBits .f32 0x00800000#32))
      (FloatOps.cmpf (F := Ideal) (φ := .f32) .olt (a * c448) (FloatOps.ofBits .f32 0x7F800000#32))) (ksearch (a * c448)) 0#32)

/-- The word of infinity is the largest extended real. -/
theorem top_word : Ideal.ofBits .f32 0x7F800000#32 = ⊤ := by simp [Ideal.ofBits, Ideal.ieee]

/-- The word of the smallest normal number. -/
theorem tiny_word : Ideal.ofBits .f32 0x00800000#32 = pow2 (-126) :=
  ieee_pow2 0x00800000#32 1 (by decide) (by decide) (by decide) (by decide) (by decide)

/-- The conjunction of two decided bits is the decided conjunction. -/
theorem and_ofBool (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]

/-- A selection on a decided bit is a case distinction. -/
theorem select_ofBool {α : Type} (p : Prop) [Decidable p] (x y : α) : Scalar.select (BitVec.ofBool (decide p)) x y = if p then x else y := by
  by_cases hp : p <;> simp [hp, Scalar.select]

/-- The kernel's exponent word is the exponent. -/
theorem kexp_eq (a : EReal) : kexp a = BitVec.ofInt 32 (expo a) := by
  have h : kexp a = if a = Ideal.ofBits .f32 0x00000000#32 then 0#32 else
      if Ideal.ofBits .f32 0x00800000#32 ≤ a * c448 ∧ a * c448 < Ideal.ofBits .f32 0x7F800000#32 then ksearch (a * c448) else 0#32 := by
    rw [← select_ofBool, ← select_ofBool, ← and_ofBool]; rfl
  rw [h, top_word, tiny_word, Ideal.ofBits_zero_f32]
  unfold expo
  split_ifs with h0 h1
  · rfl
  · obtain ⟨hp, ht⟩ := h1
    have h0 := lt_of_lt_of_le tiny_pos hp
    lift a * c448 to ℝ using ⟨ht.ne, (lt_trans EReal.bot_lt_zero h0).ne'⟩ with r
    have hr : 0 < r := EReal.coe_pos.mp h0
    rw [ksearch_eq hr ((pow2_le_iff hr _).mp hp), EReal.toReal_coe]
  · rfl

/-- The kernel's scale from the row maximum. -/
def kscale (a : EReal) : EReal := Ideal.ofBits .f32 (IntOp.shli .vector (IntOp.addi (kexp a) 127#32) 23#32)

/-- The kernel's inverse scale from the row maximum. -/
def kinv (a : EReal) : EReal := Ideal.ofBits .f32 (IntOp.shli .vector (IntOp.addi (IntOp.subi 0#32 (kexp a)) 127#32) 23#32)

/-- The kernel's scale is the power of two of the exponent. -/
theorem kscale_eq (a : EReal) : kscale a = pow2 (expo a) := by
  have := expo_range a
  unfold kscale; rw [kexp_eq, ofBits_word _ (by omega) (by omega)]

/-- The kernel's inverse scale is the power of two of the exponent's negation. -/
theorem kinv_eq (a : EReal) : kinv a = pow2 (-expo a) := by
  have := expo_range a
  have e : IntOp.subi 0#32 (BitVec.ofInt 32 (expo a)) = BitVec.ofInt 32 (-expo a) := by
    show BitVec.ofInt 32 0 - BitVec.ofInt 32 (expo a) = _
    rw [eq_comm, BitVec.eq_sub_iff_add_eq, ← BitVec.ofInt_add]
    congr 1; ring
  unfold kinv; rw [kexp_eq, e, ofBits_word _ (by omega) (by omega)]

/-! ## The reference's logarithm -/

/-- The reference's exponent, a float, from the row maximum. -/
def rexp (a : Ideal .f32) : Ideal .f32 :=
  Scalar.select (FloatOps.cmpf .oeq a (Scalar.ofBits .f32 0x00000000#32)) (Scalar.ofBits .f32 0x00000000#32)
    (FloatOps.minimumf
      (Scalar.select (IntOp.andi (FloatOps.cmpf .oge (FloatOps.mulf a (Scalar.ofBits .f32 0x3B124925#32)) (Scalar.ofBits .f32 0x00800000#32))
          (FloatOps.cmpf .olt (FloatOps.mulf a (Scalar.ofBits .f32 0x3B124925#32)) (Scalar.ofBits .f32 0x7F800000#32)))
        (FloatOps.addf (FloatOps.floor (FloatOps.mulf (FloatOps.log (FloatOps.mulf a (Scalar.ofBits .f32 0x3B124925#32)))
          (Named.named Cert.ReferenceIdeal.κ "inv_log_2" 0x3FB8AA3B#32))) (Scalar.ofBits .f32 0x3F800000#32))
        (Scalar.ofBits .f32 0x00000000#32)) (Scalar.ofBits .f32 0x42FC0000#32))

/-- The word of 126. -/
theorem w126 : Ideal.ofBits .f32 0x42FC0000#32 = (((126 : ℤ) : ℝ) : EReal) := by
  simp [Ideal.ofBits, Ideal.ieee]; rw [← EReal.coe_mul]; norm_num

/-- Bounding an integer before or after reading it as an extended real is the same. -/
theorem bound_coe (z : ℤ) : (((min 126 z : ℤ) : ℝ) : EReal) = min ((z : ℝ) : EReal) (((126 : ℤ) : ℝ) : EReal) := by
  have hm : Monotone fun z : ℤ => ((z : ℝ) : EReal) := fun a b h => EReal.coe_le_coe_iff.mpr (Int.cast_le.mpr h)
  rw [min_comm 126 z]
  exact hm.map_min

/-- The reference's exponent is the integer exponent. -/
theorem rexp_eq (a : EReal) : rexp a = (((expo a : ℤ) : ℝ) : EReal) := by
  have h : rexp a = if a = Ideal.ofBits .f32 0x00000000#32 then Ideal.ofBits .f32 0x00000000#32 else
      min (if Ideal.ofBits .f32 0x00800000#32 ≤ a * c448 ∧ a * c448 < Ideal.ofBits .f32 0x7F800000#32 then
        Ideal.liftRound Int.floor (Ideal.log (a * c448) * (((Real.log 2)⁻¹ : ℝ) : EReal)) + Ideal.ofBits .f32 0x3F800000#32
        else Ideal.ofBits .f32 0x00000000#32) (Ideal.ofBits .f32 0x42FC0000#32) := by
    rw [← select_ofBool, ← select_ofBool, ← and_ofBool]; rfl
  rw [h, top_word, tiny_word, Ideal.ofBits_zero_f32, Ideal.ofBits_one_f32, w126]
  unfold expo
  split_ifs with h0 h1
  · simp
  · obtain ⟨hp, ht⟩ := h1
    have h0 := lt_of_lt_of_le tiny_pos hp
    lift a * c448 to ℝ using ⟨ht.ne, (lt_trans EReal.bot_lt_zero h0).ne'⟩ with r
    have hr : 0 < r := EReal.coe_pos.mp h0
    have e : Ideal.log (r : EReal) * (((Real.log 2)⁻¹ : ℝ) : EReal) = ((log2 r : ℝ) : EReal) := by
      show (if r ≤ 0 then ⊥ else (Real.log r : EReal)) * _ = _
      rw [if_neg (not_le.mpr hr), ← EReal.coe_mul]; rfl
    rw [e, EReal.toReal_coe]
    show min ((((⌊log2 r⌋ : ℤ) : ℝ) : EReal) + 1) _ = _
    have e1 : ((((⌊log2 r⌋ : ℤ) : ℝ) : EReal) + 1) = (((⌊log2 r⌋ + 1 : ℤ) : ℝ) : EReal) := by
      push_cast; rfl
    rw [e1, ← bound_coe]
  · have e0 : (0 : EReal) = (((0 : ℤ) : ℝ) : EReal) := by simp
    rw [e0, ← bound_coe]
    rfl

/-- The exponential to base two of an integer is the power of two. -/
theorem exp2_int (z : ℤ) : Ideal.exp2 (((z : ℤ) : ℝ) : EReal) = pow2 z := by
  show ((Real.rpow 2 (z : ℝ) : ℝ) : EReal) = _
  unfold pow2
  congr 1
  exact Real.rpow_intCast 2 z

/-- The reference's scale is the power of two of the exponent. -/
theorem rscale_eq (a : EReal) : FloatOps.exp2 (F := Ideal) (φ := .f32) (rexp a) = pow2 (expo a) := by
  rw [rexp_eq]; exact exp2_int _

/-- The reference's inverse scale is the power of two of the exponent's negation. -/
theorem rinv_eq (a : EReal) : FloatOps.exp2 (F := Ideal) (φ := .f32) (FloatOps.subf (Scalar.ofBits .f32 0x00000000#32) (rexp a)) = pow2 (-expo a) := by
  rw [rexp_eq]
  have e : FloatOps.subf (F := Ideal) (φ := .f32) (Scalar.ofBits .f32 0x00000000#32) (((expo a : ℤ) : ℝ) : EReal) = (((-expo a : ℤ) : ℝ) : EReal) := by
    show Ideal.ofBits .f32 0x00000000#32 - (((expo a : ℤ) : ℝ) : EReal) = _
    rw [Ideal.ofBits_zero_f32, zero_sub]; simp
  rw [e]; exact exp2_int _

end Cert.Spec

end
-- ==== Proof.Spec.Blocks.lean ====
/-
  The two results as functions of the four arrays, element by element; and what the kernel's block
  operations and the reference's whole-array operations compute, read at one index.
-/
module

public import proofs.«01_k».proof.Proof.KernelIdeal.Steps
public import proofs.«01_k».proof.Proof.Gen.ReferenceIdeal.Value
public import proofs.«01_k».proof.Proof.Spec.Scale
public import Idealize.ShloMosaic.Lib.Pointwise

@[expose] public section

noncomputable section

namespace Cert.Spec

open Idealize.ShloMosaic
open Cert.KernelIdeal (S512x2432 S2432x2304 S512x1 S1x2304 S512x2304 S1x512x2304 S512x128 grid0)
open Cert.ReferenceIdeal (S2048x2432 S2432x20736 S2048x1 S1x20736 S2048x20736 S2048)
open Cert.KernelIdeal.Hand (rowmax scaleOf invOf)

/-! ## The results -/

/-- The magnitude of an extended real. -/
def mag (x : EReal) : EReal := max x (-x)

/-- A magnitude is not negative. -/
theorem mag_nonneg (x : EReal) : 0 ≤ mag x := by
  unfold mag
  rcases le_total 0 x with h | h
  · exact le_max_of_le_left h
  · exact le_max_of_le_right (EReal.neg_nonneg.mpr h)

section
variable (X : Vec Ideal S2048x2432 .fp8e4m3) (W : Vec Ideal S2432x20736 .fp8e4m3) (XS : Vec Ideal S2048x1 .f32) (WS : Vec Ideal S1x20736 .f32)

/-- The scaled product at row `r` and column `q`. -/
def entry (r : Fin 2048) (q : Fin 20736) : EReal := (∑ k : Fin 2432, X (ix2 r k) * W (ix2 k q)) * XS (ix2 r 0) * WS (ix2 0 q)

/-- The largest magnitude of row `r`. -/
def amax (r : Fin 2048) : EReal := Finset.fold max (Ideal.ofBits .f32 0xFF800000#32) (fun q : Fin 20736 => mag (entry X W XS WS r q)) Finset.univ

/-- The scale of each row. -/
def scales : Vec Ideal S2048x1 .f32 := fun y => pow2 (expo (amax X W XS WS (y 0)))

/-- The code of each element: the element over the scale, clipped to what the format holds. -/
def codes : Vec Ideal S2048x20736 .fp8e4m3 := fun y =>
  min (Ideal.ofBits .f32 0x43E00000#32) (max (Ideal.ofBits .f32 0xC3E00000#32)
    (entry X W XS WS (y 0) (y 1) * pow2 (-expo (amax X W XS WS (y 0)))))
end

/-- The maximum starts from the smallest value. -/
theorem bot_word : Ideal.ofBits .f32 0xFF800000#32 = ⊥ := by simp [Ideal.ofBits, Ideal.ieee]

/-- An upper bound of a row's largest magnitude is one of every magnitude in the row. -/
theorem amax_le_iff (X : Vec Ideal S2048x2432 .fp8e4m3) (W : Vec Ideal S2432x20736 .fp8e4m3) (XS : Vec Ideal S2048x1 .f32) (WS : Vec Ideal S1x20736 .f32)
    (r : Fin 2048) (u : EReal) : amax X W XS WS r ≤ u ↔ ∀ q, mag (entry X W XS WS r q) ≤ u := by
  unfold amax
  rw [Finset.fold_max_le, bot_word]
  simp

/-! ## The reference's operations -/

/-- The reference's product at an index. -/
theorem product_apply (X : Vec Ideal S2048x2432 .fp8e4m3) (W : Vec Ideal S2432x20736 .fp8e4m3) (XS : Vec Ideal S2048x1 .f32) (WS : Vec Ideal S1x20736 .f32)
    (y : S2048x20736.Idx) : Cert.ReferenceIdeal.Gen.k0_pay2 X W XS WS y = entry X W XS WS (y 0) (y 1) := by
  unfold Cert.ReferenceIdeal.Gen.k0_pay2 entry
  pointwise

open Cert.ReferenceIdeal Cert.ReferenceIdeal.Gen in
/-- The reference's row maximum at an index. -/
theorem rowMax_apply (X : Vec Ideal S2048x2432 .fp8e4m3) (W : Vec Ideal S2432x20736 .fp8e4m3) (XS : Vec Ideal S2048x1 .f32) (WS : Vec Ideal S1x20736 .f32)
    (j : S2048.Idx) :
    multiReduction .maximumf [1] S2048 (absf (k0_pay2 X W XS WS)) 0xFF800000#32 reduces_S2048x20736_S2048 (.inl rfl) rfl j = amax X W XS WS (j 0) := by
  refine (Ideal.multiReduction_maximumf_single (φ := .f32) _ _ _ _ _ j).trans ?_
  unfold amax
  congr 1
  funext q
  show mag (k0_pay2 X W XS WS _) = _
  rw [product_apply]
  rfl

/-! ## The kernel's operations -/

/-- One tile of the kernel's product at an index. -/
theorem tile_apply (x : Vec Ideal S512x2432 .fp8e4m3) (w : Vec Ideal S2432x2304 .fp8e4m3) (xs : Vec Ideal S512x1 .f32) (ws : Vec Ideal S1x2304 .f32)
    (j : S512x2304.Idx) : Cert.KernelIdeal.Gen.k0_pay7 x w xs ws j = (∑ k : Fin 2432, x (ix2 (j 0) k) * w (ix2 k (j 1))) * xs (ix2 (j 0) 0) * ws (ix2 0 (j 1)) := by
  unfold Cert.KernelIdeal.Gen.k0_pay7
  pointwise

/-- The same tile in the scratch's shape. -/
theorem slot_apply (x : Vec Ideal S512x2432 .fp8e4m3) (w : Vec Ideal S2432x2304 .fp8e4m3) (xs : Vec Ideal S512x1 .f32) (ws : Vec Ideal S1x2304 .f32)
    (j : S1x512x2304.Idx) : Cert.KernelIdeal.Gen.k0_pay8 x w xs ws j = Cert.KernelIdeal.Gen.k0_pay7 x w xs ws (ix2 (j 1) (j 2)) := by
  unfold Cert.KernelIdeal.Gen.k0_pay8
  pointwise

/-- The kernel's codes at an index. -/
theorem codes_apply (v : Vec Ideal S1x512x2304 .f32) (I : Vec Ideal S512x1 .f32) (j : S512x2304.Idx) :
    Cert.KernelIdeal.Gen.k0_pay3 v I j = min (Ideal.ofBits .f32 0x43E00000#32) (max (Ideal.ofBits .f32 0xC3E00000#32) (v (ix3 0 (j 0) (j 1)) * I (ix2 (j 0) 0))) := by
  unfold Cert.KernelIdeal.Gen.k0_pay3
  pointwise

/-- The largest of the 128 partial maxima of a row. -/
def laneMax (R : Vec Ideal S512x128 .f32) (p : Fin 512) : EReal :=
  Finset.fold max (Ideal.ofBits .f32 0xFF800000#32) (fun l : Fin 128 => R (ix2 p l)) Finset.univ

/-- An upper bound of the largest partial maximum is one of each. -/
theorem laneMax_le_iff (R : Vec Ideal S512x128 .f32) (p : Fin 512) (u : EReal) : laneMax R p ≤ u ↔ ∀ l, R (ix2 p l) ≤ u := by
  unfold laneMax
  rw [Finset.fold_max_le, bot_word]
  simp

/-- The kernel's row maximum at an index. -/
theorem pay16_apply (R : Vec Ideal S512x128 .f32) (j : S512x1.Idx) : Cert.KernelIdeal.Gen.k0_pay16 R j = laneMax R (j 0) := by
  unfold Cert.KernelIdeal.Gen.k0_pay16 laneMax
  pointwise

/-- The row maximum times the constant, at an index. -/
theorem pay17_apply (R : Vec Ideal S512x128 .f32) (j : S512x1.Idx) : Cert.KernelIdeal.Gen.k0_pay17 R j = laneMax R (j 0) * c448 := by
  rw [← pay16_apply]; rfl

/-- The exponent word from a row maximum `a` and its multiple `t`. -/
def kexp' (a t : EReal) : BitVec 32 :=
  Scalar.select (FloatOps.cmpf (F := Ideal) (φ := .f32) .oeq a (FloatOps.ofBits .f32 0x00000000#32)) 0#32
    (Scalar.select (IntOp.andi (FloatOps.cmpf (F := Ideal) (φ := .f32) .oge t (FloatOps.ofBits .f32 0x00800000#32))
      (FloatOps.cmpf (F := Ideal) (φ := .f32) .olt t (FloatOps.ofBits .f32 0x7F800000#32))) (ksearch t) 0#32)

/-- The kernel's scale of a row is the scalar search on the row's largest partial maximum. -/
theorem scaleOf_apply (R : Vec Ideal S512x128 .f32) (j : S512x1.Idx) : scaleOf R j = pow2 (expo (laneMax R (j 0))) := by
  have h : scaleOf R j = Ideal.ofBits .f32 (IntOp.shli .vector (IntOp.addi
      (kexp' (Cert.KernelIdeal.Gen.k0_pay16 R j) (Cert.KernelIdeal.Gen.k0_pay17 R j)) 127#32) 23#32) := rfl
  rw [h, pay17_apply, pay16_apply, ← kscale_eq]; rfl

/-- The kernel's inverse scale likewise. -/
theorem invOf_apply (R : Vec Ideal S512x128 .f32) (j : S512x1.Idx) : invOf R j = pow2 (-expo (laneMax R (j 0))) := by
  have h : invOf R j = Ideal.ofBits .f32 (IntOp.shli .vector (IntOp.addi (IntOp.subi 0#32
      (kexp' (Cert.KernelIdeal.Gen.k0_pay16 R j) (Cert.KernelIdeal.Gen.k0_pay17 R j))) 127#32) 23#32) := by
    unfold invOf Cert.KernelIdeal.Gen.k0_pay6
    rw [shapeCast_self]; rfl
  rw [h, pay17_apply, pay16_apply, ← kinv_eq]; rfl

/-- An upper bound of a lane's running maximum after a tile is one of the tile's magnitudes in that lane and, unless
    the tile is the row's first, of the maximum before. -/
theorem rowmax_le_iff (i : grid0.Coords) (x : Vec Ideal S512x2432 .fp8e4m3) (w : Vec Ideal S2432x2304 .fp8e4m3) (xs : Vec Ideal S512x1 .f32) (ws : Vec Ideal S1x2304 .f32)
    (R : Vec Ideal S512x128 .f32) (p : Fin 512) (l : Fin 128) (u : EReal) : rowmax i x w xs ws R (ix2 p l) ≤ u ↔
      (∀ q : Fin 2304, q.val % 128 = l.val → mag (Cert.KernelIdeal.Gen.k0_pay7 x w xs ws (ix2 p q)) ≤ u) ∧ ((i 1).val = 0 ∨ R (ix2 p l) ≤ u) := by
  unfold rowmax Cert.KernelIdeal.Gen.k0_pay1 Cert.KernelIdeal.Gen.k0_pay9 Cert.KernelIdeal.Gen.k0_pay10
  generalize Cert.KernelIdeal.Gen.k0_pay7 x w xs ws = Y
  pointwise
  have hsel : Scalar.select (Scalar.cmpi .eq (BitVec.ofNat 32 (i 1).val) 0#32) (0 : EReal) (R (ix2 p l)) = if (i 1).val = 0 then 0 else R (ix2 p l) := by
    have h9 : (i 1).val < 9 := (i 1).isLt
    generalize (i 1).val = n at h9
    interval_cases n <;> rfl
  rw [hsel]
  simp only [max_le_iff]
  constructor
  · rintro ⟨hR, hY⟩
    refine ⟨fun q hq => ?_, ?_⟩
    · obtain ⟨k, hk⟩ : ∃ k, k = q.val / 128 := ⟨_, rfl⟩
      have hq2 : q.val = 128 * k + l.val := by omega
      have hk18 : k < 18 := by omega
      have hm : ∀ (n : ℕ) (hn : n < 2304), n = q.val → mag (Y (ix2 p ⟨n, hn⟩)) ≤ u → mag (Y (ix2 p q)) ≤ u := by
        rintro n hn rfl h; exact h
      obtain ⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩ := hY
      clear hk
      interval_cases k
      · exact hm _ _ (by omega) h0
      · exact hm _ _ (by omega) h1
      · exact hm _ _ (by omega) h2
      · exact hm _ _ (by omega) h3
      · exact hm _ _ (by omega) h4
      · exact hm _ _ (by omega) h5
      · exact hm _ _ (by omega) h6
      · exact hm _ _ (by omega) h7
      · exact hm _ _ (by omega) h8
      · exact hm _ _ (by omega) h9
      · exact hm _ _ (by omega) h10
      · exact hm _ _ (by omega) h11
      · exact hm _ _ (by omega) h12
      · exact hm _ _ (by omega) h13
      · exact hm _ _ (by omega) h14
      · exact hm _ _ (by omega) h15
      · exact hm _ _ (by omega) h16
      · exact hm _ _ (by omega) h17
    · by_cases h0 : (i 1).val = 0
      · exact Or.inl h0
      · rw [if_neg h0] at hR; exact Or.inr hR
  · rintro ⟨hY, hR⟩
    refine ⟨?_, ?_⟩
    · by_cases h0 : (i 1).val = 0
      · rw [if_pos h0]; exact le_trans (mag_nonneg _) (hY ⟨l.val, by omega⟩ (by dsimp only; omega))
      · rw [if_neg h0]; exact hR.resolve_left h0
    · repeat' apply And.intro
      all_goals exact hY _ (by dsimp only; omega)

end Cert.Spec
-- ==== Proof.KernelIdeal.Value.lean ====
/-
  What the kernel's two result arrays hold: the scales and the codes of the whole product, element by element.
-/
module

public import proofs.«01_k».proof.Proof.KernelIdeal.Run
public import proofs.«01_k».proof.Proof.Spec.Blocks
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Spec

variable (m : (ℓ : Loc nD τ sig) → Buf (Elt Ideal) ℓ) (ρ : Dev nD → PrngReg)

/-- The four arrays the region is entered with. -/
abbrev aX (c : Dev nD) : Vec Ideal S2048x2432 .fp8e4m3 := V m c main_v0
abbrev aXS (c : Dev nD) : Vec Ideal S2048x1 .f32 := V m c main_v1
abbrev aW (c : Dev nD) : Vec Ideal S2432x20736 .fp8e4m3 := V m c main_arg2
abbrev aWS (c : Dev nD) : Vec Ideal S1x20736 .f32 := V m c main_arg3

/-- The scaled product of those arrays, and its row maxima. -/
abbrev ent (c : Dev nD) (r : Fin 2048) (q : Fin 20736) : EReal := entry (aX m c) (aW m c) (aXS m c) (aWS m c) r q
abbrev rmx (c : Dev nD) (r : Fin 2048) : EReal := amax (aX m c) (aW m c) (aXS m c) (aWS m c) r

/-! ## Where each window's block lies -/

/-- The activations' block is that of the row of tiles. -/
theorem index0 (t : Fin cfg0.N) : win0_0.index t 0 = min (t.val / 9) 3 ∧ win0_0.index t 1 = 0 := by revert t; decide +kernel
/-- The activation scales' block likewise. -/
theorem index1 (t : Fin cfg0.N) : win0_1.index t 0 = min (t.val / 9) 3 ∧ win0_1.index t 1 = 0 := by revert t; decide +kernel
/-- The weights' block is that of the column of tiles. -/
theorem index2 (t : Fin cfg0.N) (h : t.val < 36) : win0_2.index t 0 = 0 ∧ win0_2.index t 1 = t.val % 9 := by revert t; decide +kernel
/-- The weight scales' block likewise. -/
theorem index3 (t : Fin cfg0.N) (h : t.val < 36) : win0_3.index t 0 = 0 ∧ win0_3.index t 1 = t.val % 9 := by revert t; decide +kernel
/-- The result scales' block is that of the row of tiles. -/
theorem index4 (t : Fin cfg0.N) : win0_4.index t 0 = min (t.val / 9) 3 ∧ win0_4.index t 1 = 0 := by revert t; decide +kernel
/-- The codes' block is one row of tiles behind. -/
theorem index5 (t : Fin cfg0.N) (h : 9 ≤ t.val) : win0_5.index t 0 = t.val / 9 - 1 ∧ win0_5.index t 1 = t.val % 9 := by revert t; decide +kernel

/-- The row of the whole product that row `p` of block row `b` is. -/
def row (b : ℕ) (hb : b < 4) (p : Fin 512) : Fin 2048 := ⟨b * 512 + p.val, by omega⟩
/-- The column that column `q` of tile column `j` is. -/
def tcol (j : ℕ) (hj : j < 9) (q : Fin 2304) : Fin 20736 := ⟨j * 2304 + q.val, by omega⟩

/-- A point's block of the activations, at an index. -/
theorem bx_apply (c : Dev nD) (t : Fin cfg0.N) (h : t.val < 36) (p : Fin 512) (k : Fin 2432) :
    bx m c t (ix2 p k) = aX m c (ix2 (row (t.val / 9) (by omega) p) k) := by
  obtain ⟨h0, h1⟩ := index0 t
  unfold bx iblk
  rw [View.read_apply]
  show V m c main_v0 _ = V m c main_v0 _
  congr 1
  funext a
  apply Fin.ext
  match a with
  | ⟨0, _⟩ => show win0_0.index t 0 * 512 + 1 * p.val = t.val / 9 * 512 + p.val; rw [h0]; omega
  | ⟨1, _⟩ => show win0_0.index t 1 * 2432 + 1 * k.val = k.val; rw [h1]; omega

/-- A point's block of the activation scales, at an index. -/
theorem bxs_apply (c : Dev nD) (t : Fin cfg0.N) (h : t.val < 36) (p : Fin 512) :
    bxs m c t (ix2 p 0) = aXS m c (ix2 (row (t.val / 9) (by omega) p) 0) := by
  obtain ⟨h0, h1⟩ := index1 t
  unfold bxs iblk
  rw [View.read_apply]
  show V m c main_v1 _ = V m c main_v1 _
  congr 1
  funext a
  apply Fin.ext
  match a with
  | ⟨0, _⟩ => show win0_1.index t 0 * 512 + 1 * p.val = t.val / 9 * 512 + p.val; rw [h0]; omega
  | ⟨1, _⟩ => show win0_1.index t 1 * 1 + 1 * 0 = 0; rw [h1]

/-- A point's block of the weights, at an index. -/
theorem bw_apply (c : Dev nD) (t : Fin cfg0.N) (h : t.val < 36) (k : Fin 2432) (q : Fin 2304) :
    bw m c t (ix2 k q) = aW m c (ix2 k (tcol (t.val % 9) (by omega) q)) := by
  obtain ⟨h0, h1⟩ := index2 t h
  unfold bw iblk
  rw [View.read_apply]
  show V m c main_arg2 _ = V m c main_arg2 _
  congr 1
  funext a
  apply Fin.ext
  match a with
  | ⟨0, _⟩ => show win0_2.index t 0 * 2432 + 1 * k.val = k.val; rw [h0]; omega
  | ⟨1, _⟩ => show win0_2.index t 1 * 2304 + 1 * q.val = t.val % 9 * 2304 + q.val; rw [h1]; omega

/-- A point's block of the weight scales, at an index. -/
theorem bws_apply (c : Dev nD) (t : Fin cfg0.N) (h : t.val < 36) (q : Fin 2304) :
    bws m c t (ix2 0 q) = aWS m c (ix2 0 (tcol (t.val % 9) (by omega) q)) := by
  obtain ⟨h0, h1⟩ := index3 t h
  unfold bws iblk
  rw [View.read_apply]
  show V m c main_arg3 _ = V m c main_arg3 _
  congr 1
  funext a
  apply Fin.ext
  match a with
  | ⟨0, _⟩ => show win0_3.index t 0 * 1 + 1 * 0 = 0; rw [h0]
  | ⟨1, _⟩ => show win0_3.index t 1 * 2304 + 1 * q.val = t.val % 9 * 2304 + q.val; rw [h1]; omega

/-- The point of a number below 45 has that number. -/
theorem pt_lt (n : ℕ) (h : n < 45) : (pt n).val = n := Nat.mod_eq_of_lt h

/-- The tile of point `n` is its part of the whole product. -/
theorem ytile_apply (c : Dev nD) (t : Fin cfg0.N) (h : t.val < 36) (p : Fin 512) (q : Fin 2304) :
    k0_pay7 (bx m c t) (bw m c t) (bxs m c t) (bws m c t) (ix2 p q)
      = ent m c (row (t.val / 9) (by omega) p) (tcol (t.val % 9) (by omega) q) := by
  rw [tile_apply]
  show (∑ k : Fin 2432, bx m c t (ix2 p k) * bw m c t (ix2 k q)) * bxs m c t (ix2 p 0) * bws m c t (ix2 0 q) = _
  rw [bxs_apply m c t h, bws_apply m c t h]
  simp only [bx_apply m c t h, bw_apply m c t h]
  rfl

/-- The same in the scratch's shape. -/
theorem tileAt_apply (c : Dev nD) (t : Fin cfg0.N) (h : t.val < 36) (p : Fin 512) (q : Fin 2304) :
    tileAt m c t.val (ix3 0 p q) = ent m c (row (t.val / 9) (by omega) p) (tcol (t.val % 9) (by omega) q) := by
  rw [tileAt_eq]
  exact (slot_apply _ _ _ _ _).trans (ytile_apply m c t h p q)

/-! ## The row maximum -/

/-- One step, bounded. -/
theorem maxStep_le_iff (c : Dev nD) (n : ℕ) (h : n < 36) (R : Vec Ideal S512x128 .f32) (p : Fin 512) (l : Fin 128) (u : EReal) :
    maxStep m c n R (ix2 p l) ≤ u ↔
      (∀ q : Fin 2304, q.val % 128 = l.val → mag (ent m c (row (n / 9) (by omega) p) (tcol (n % 9) (by omega) q)) ≤ u) ∧ (n % 9 = 0 ∨ R (ix2 p l) ≤ u) := by
  obtain ⟨t, rfl⟩ : ∃ t : Fin cfg0.N, n = t.val := ⟨pt n, (pt_lt n (by omega)).symm⟩
  unfold maxStep
  rw [pt_val, rowmax_le_iff, coord1, Nat.div_one]
  simp only [ytile_apply m c t h]

/-- After point `n` a lane's partial maximum is bounded by what bounds the lane's columns so far. -/
theorem maxAt_le_iff (c : Dev nD) (p : Fin 512) (l : Fin 128) (u : EReal) : ∀ (n : ℕ) (h : n < 36),
    maxAt m c n (ix2 p l) ≤ u ↔ ∀ q : Fin 20736, q.val < (n % 9 + 1) * 2304 → q.val % 128 = l.val → mag (ent m c (row (n / 9) (by omega) p) q) ≤ u := by
  have key : ∀ (n : ℕ) (h : n < 36) (P : Prop), (n % 9 = 0 ∨ (P ↔ ∀ q : Fin 20736, q.val < n % 9 * 2304 → q.val % 128 = l.val → mag (ent m c (row (n / 9) (by omega) p) q) ≤ u)) →
      (((∀ q : Fin 2304, q.val % 128 = l.val → mag (ent m c (row (n / 9) (by omega) p) (tcol (n % 9) (by omega) q)) ≤ u) ∧ (n % 9 = 0 ∨ P)) ↔
        ∀ q : Fin 20736, q.val < (n % 9 + 1) * 2304 → q.val % 128 = l.val → mag (ent m c (row (n / 9) (by omega) p) q) ≤ u) := by
    intro n h P hP
    constructor
    · rintro ⟨h1, h2⟩ q hq hl
      by_cases hlt : q.val < n % 9 * 2304
      · have h0 : n % 9 ≠ 0 := by omega
        exact (hP.resolve_left h0).mp (h2.resolve_left h0) q hlt hl
      · have := h1 ⟨q.val - n % 9 * 2304, by omega⟩ (by dsimp only; omega)
        have e : tcol (n % 9) (by omega) ⟨q.val - n % 9 * 2304, by omega⟩ = q := Fin.ext (by show n % 9 * 2304 + (q.val - n % 9 * 2304) = q.val; omega)
        rwa [e] at this
    · intro hA
      refine ⟨fun q hl => hA _ ?_ ?_, ?_⟩
      · show n % 9 * 2304 + q.val < _; omega
      · show (n % 9 * 2304 + q.val) % 128 = _; omega
      · rcases hP with h0 | hP
        · exact Or.inl h0
        · exact Or.inr (hP.mpr fun q hq hl => hA q (by omega) hl)
  intro n
  induction n with
  | zero => intro h; exact (maxStep_le_iff m c 0 h _ p l u).trans (key 0 h _ (Or.inl rfl))
  | succ n ih =>
    intro h
    refine (maxStep_le_iff m c (n + 1) h _ p l u).trans (key (n + 1) h _ ?_)
    by_cases h0 : (n + 1) % 9 = 0
    · exact Or.inl h0
    · right
      have e1 : (n + 1) % 9 = n % 9 + 1 := by omega
      have e2 : row ((n + 1) / 9) (by omega) p = row (n / 9) (by omega) p := Fin.ext (by show (n + 1) / 9 * 512 + _ = n / 9 * 512 + _; omega)
      rw [e1, e2]
      exact ih (by omega)

/-- After a row's last tile the largest partial maximum is the row's. -/
theorem laneMax_eq (c : Dev nD) (b : ℕ) (hb : b < 4) (p : Fin 512) : laneMax (maxAt m c (9 * b + 8)) p = rmx m c (row b hb p) := by
  refine eq_of_forall_ge_iff fun u => ?_
  rw [laneMax_le_iff, amax_le_iff]
  have e : ∀ h, row ((9 * b + 8) / 9) h p = row b hb p := fun h => Fin.ext (by show (9 * b + 8) / 9 * 512 + _ = b * 512 + _; omega)
  constructor
  · intro h q
    have := (maxAt_le_iff m c p ⟨q.val % 128, Nat.mod_lt _ (by decide)⟩ u (9 * b + 8) (by omega)).mp (h _) q (by omega) rfl
    rwa [e] at this
  · intro h l
    refine (maxAt_le_iff m c p l u (9 * b + 8) (by omega)).mpr fun q _ _ => ?_
    rw [e]; exact h q

/-- The scale of a row of tiles. -/
theorem scaleAt_apply (c : Dev nD) (b : ℕ) (hb : b < 4) (j : S512x1.Idx) :
    scaleAt m c b j = scales (aX m c) (aW m c) (aXS m c) (aWS m c) (ix2 (row b hb (j 0)) 0) :=
  (scaleOf_apply _ j).trans (congrArg (fun a => pow2 (expo a)) (laneMax_eq m c b hb (j 0)))

/-- The inverse scale of a row of tiles. -/
theorem invAt_apply (c : Dev nD) (b : ℕ) (hb : b < 4) (j : S512x1.Idx) : invAt m c b j = pow2 (-expo (rmx m c (row b hb (j 0)))) :=
  (invOf_apply _ j).trans (congrArg (fun a => pow2 (-expo a)) (laneMax_eq m c b hb (j 0)))

/-- The codes a point writes. -/
theorem codesAt_apply (c : Dev nD) (n : ℕ) (h9 : 9 ≤ n) (h45 : n < 45) (j : S512x2304.Idx) :
    codesAt m c n j = codes (aX m c) (aW m c) (aXS m c) (aWS m c) (ix2 (row (n / 9 - 1) (by omega) (j 0)) (tcol (n % 9) (by omega) (j 1))) := by
  have ht : (pt (n - 9)).val = n - 9 := pt_lt _ (by omega)
  have h1 := tileAt_apply m c (pt (n - 9)) (by rw [ht]; omega) (j 0) (j 1)
  unfold codesAt
  refine (codes_apply _ _ j).trans ?_
  rw [invAt_apply m c (n / 9 - 1) (by omega), ← ht, h1]
  have e1 : ∀ h h', row ((pt (n - 9)).val / 9) h (j 0) = row (n / 9 - 1) h' (j 0) := fun h h' => Fin.ext (by
    show (pt (n - 9)).val / 9 * 512 + _ = (n / 9 - 1) * 512 + _; rw [ht]; omega)
  have e2 : ∀ h h', tcol ((pt (n - 9)).val % 9) h (j 1) = tcol (n % 9) h' (j 1) := fun h h' => Fin.ext (by
    show (pt (n - 9)).val % 9 * 2304 + _ = n % 9 * 2304 + _; rw [ht]; omega)
  rw [e1 _ (by omega), e2 _ (by omega)]
  rfl

/-! ## The arrays -/

/-- The first result array holds the scales. -/
theorem final4 (c : Dev nD) : (dats m 0 c).arrAt 4 cfg0.N = scales (aX m c) (aW m c) (aXS m c) (aWS m c) := by
  refine (dats m 0 c).arrAt_eq_of_cover 4 _ (fun t hf => ?_) (fun i => ?_)
  · obtain ⟨h0, h1⟩ := index4 t
    show (cfg0.win 4).cut (grid0.coords t) ((dats m 0 c).after 4 t) = _
    rw [after0_4]
    funext j
    rw [View.read_apply]
    refine (scaleAt_apply m c (min (t.val / 9) 3) (by omega) j).trans ?_
    show scales (aX m c) (aW m c) (aXS m c) (aWS m c) _ = scales (aX m c) (aW m c) (aXS m c) (aWS m c) _
    have hj : (j 1).val < 1 := (j 1).isLt
    congr 1
    funext a
    apply Fin.ext
    match a with
    | ⟨0, _⟩ => show min (t.val / 9) 3 * 512 + (j 0).val = win0_4.index t 0 * 512 + 1 * (j 0).val; rw [h0]; omega
    | ⟨1, _⟩ => show 0 = win0_4.index t 1 * 1 + 1 * (j 1).val; rw [h1]; omega
  · have hi0 : (i 0 : ℕ) < 2048 := (i 0).isLt
    have hi1 : (i 1 : ℕ) < 1 := (i 1).isLt
    obtain ⟨t, ht⟩ : ∃ t : Fin cfg0.N, t.val = if (i 0 : ℕ) / 512 = 3 then 44 else (i 0 : ℕ) / 512 * 9 + 8 :=
      ⟨pt _, pt_lt _ (by split_ifs <;> omega)⟩
    obtain ⟨h0, h1⟩ := index4 t
    refine ⟨t, ?_, ?_⟩
    · rw [flush4]; refine decide_eq_true ?_
      split_ifs at ht <;> omega
    · show i ∈ ((View.whole main_v2_0).slice (win0_4.rect t)).set
      rw [View.set_slice_whole, Rect.mem_set_unit]
      intro a
      match a with
      | ⟨0, _⟩ => show win0_4.index t 0 * 512 ≤ (i 0 : Nat) ∧ (i 0 : Nat) < win0_4.index t 0 * 512 + 512
                  rw [h0]; split_ifs at ht <;> omega
      | ⟨1, _⟩ => show win0_4.index t 1 * 1 ≤ (i 1 : Nat) ∧ (i 1 : Nat) < win0_4.index t 1 * 1 + 1
                  rw [h1]; omega

/-- The second result array holds the codes. -/
theorem final5 (c : Dev nD) : (dats m 0 c).arrAt 5 cfg0.N = codes (aX m c) (aW m c) (aXS m c) (aWS m c) := by
  refine (dats m 0 c).arrAt_eq_of_cover 5 _ (fun t hf => ?_) (fun i => ?_)
  · have h9 : 9 ≤ t.val := of_decide_eq_true ((flush5 t).symm.trans hf)
    obtain ⟨h0, h1⟩ := index5 t h9
    show (cfg0.win 5).cut (grid0.coords t) ((dats m 0 c).after 5 t) = _
    rw [after0_5]
    funext j
    rw [View.read_apply]
    refine (codesAt_apply m c t.val h9 (lt45 t) j).trans ?_
    show codes (aX m c) (aW m c) (aXS m c) (aWS m c) _ = codes (aX m c) (aW m c) (aXS m c) (aWS m c) _
    congr 1
    funext a
    apply Fin.ext
    match a with
    | ⟨0, _⟩ => show (t.val / 9 - 1) * 512 + (j 0).val = win0_5.index t 0 * 512 + 1 * (j 0).val; rw [h0]; omega
    | ⟨1, _⟩ => show t.val % 9 * 2304 + (j 1).val = win0_5.index t 1 * 2304 + 1 * (j 1).val; rw [h1]; omega
  · have hi0 : (i 0 : ℕ) < 2048 := (i 0).isLt
    have hi1 : (i 1 : ℕ) < 20736 := (i 1).isLt
    obtain ⟨t, ht⟩ : ∃ t : Fin cfg0.N, t.val = ((i 0 : ℕ) / 512 + 1) * 9 + (i 1 : ℕ) / 2304 := ⟨pt _, pt_lt _ (by omega)⟩
    have h9 : 9 ≤ t.val := by omega
    obtain ⟨h0, h1⟩ := index5 t h9
    refine ⟨t, ?_, ?_⟩
    · rw [flush5]; exact decide_eq_true h9
    · show i ∈ ((View.whole main_v2_1).slice (win0_5.rect t)).set
      rw [View.set_slice_whole, Rect.mem_set_unit]
      intro a
      match a with
      | ⟨0, _⟩ => show win0_5.index t 0 * 512 ≤ (i 0 : Nat) ∧ (i 0 : Nat) < win0_5.index t 0 * 512 + 512
                  rw [h0]; omega
      | ⟨1, _⟩ => show win0_5.index t 1 * 2304 ≤ (i 1 : Nat) ∧ (i 1 : Nat) < win0_5.index t 1 * 2304 + 2304
                  rw [h1]; omega

/-- The run, read: the two result arrays at the scales and the codes, the arguments unchanged. -/
theorem run_value : θ_run defs (onTc (τ := τ) (main (F := Ideal))) ⟨m, fun _ => 0, ρ⟩ fun r => ∀ c : Dev nD,
      r.2.mem ((c : Thread nD τ).loc main_v2_0) = scales (aX m c) (aW m c) (aXS m c) (aWS m c)
      ∧ r.2.mem ((c : Thread nD τ).loc main_v2_1) = codes (aX m c) (aW m c) (aXS m c) (aWS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 4).trans (final4 m c), ((h.1 c).1 5).trans (final5 m c), h.2 c⟩)
    (θ_run_and (run_main m ρ) (unchanged m ρ))

end Cert.KernelIdeal.Hand

end
-- ==== Proof.ReferenceIdeal.Value.lean ====
/-
  What the reference's two result arrays hold: the scales and the codes of the whole product, element by element.
-/
module

public import proofs.«01_k».proof.Proof.Spec.Blocks

@[expose] public section

noncomputable section

namespace Cert.ReferenceIdeal.Hand

open Cert.ReferenceIdeal Cert.ReferenceIdeal.Gen Cert.ReferenceIdeal.Value
open Idealize.ShloMosaic Idealize.ShloMosaic.TcCoe Idealize.SL.Sem
open Idealize.ShloMosaic.Pipeline (Dat)
open Cert.Spec

variable (m : (ℓ : Loc nD τ sig) → Buf (Elt Ideal) ℓ) (ρ : Dev nD → PrngReg)

/-- The four arrays the region is entered with. -/
abbrev aX (c : Dev nD) : Vec Ideal S2048x2432 .fp8e4m3 := V m c main_v0
abbrev aXS (c : Dev nD) : Vec Ideal S2048x1 .f32 := V m c main_v1
abbrev aW (c : Dev nD) : Vec Ideal S2432x20736 .fp8e4m3 := V m c main_arg2
abbrev aWS (c : Dev nD) : Vec Ideal S1x20736 .f32 := V m c main_arg3

/-- The zero offsets. -/
theorem hz : (![0, 0] : Fin 2 → Nat) = fun _ => 0 := funext fun a => by fin_cases a <;> rfl

/-- Every window's one block is its whole array. -/
theorem iblk0 (c : Dev nD) (t : Fin cfg0.N) : iblk m c 0 t = aX m c :=
  Memref.read_access_unit_zero (Elt Ideal) main_v0 (funext fun a => by revert t; fin_cases a <;> decide +kernel) _ (V m c main_v0)
/-- The same of the activation scales. -/
theorem iblk1 (c : Dev nD) (t : Fin cfg0.N) : iblk m c 1 t = aXS m c :=
  Memref.read_access_unit_zero (Elt Ideal) main_v1 (funext fun a => by revert t; fin_cases a <;> decide +kernel) _ (V m c main_v1)
/-- The same of the weights. -/
theorem iblk2 (c : Dev nD) (t : Fin cfg0.N) : iblk m c 2 t = aW m c :=
  Memref.read_access_unit_zero (Elt Ideal) main_arg2 (funext fun a => by revert t; fin_cases a <;> decide +kernel) _ (V m c main_arg2)
/-- The same of the weight scales. -/
theorem iblk3 (c : Dev nD) (t : Fin cfg0.N) : iblk m c 3 t = aWS m c :=
  Memref.read_access_unit_zero (Elt Ideal) main_arg3 (funext fun a => by revert t; fin_cases a <;> decide +kernel) _ (V m c main_arg3)

/-- The scale's block, element by element. -/
theorem E4_eq (X : Vec Ideal S2048x2432 .fp8e4m3) (W : Vec Ideal S2432x20736 .fp8e4m3) (XS : Vec Ideal S2048x1 .f32) (WS : Vec Ideal S1x20736 .f32) :
    E4 X W XS WS = scales X W XS WS := by
  funext y
  have h : E4 X W XS WS y = FloatOps.exp2 (F := Ideal) (φ := .f32) (rexp (multiReduction .maximumf [1] S2048 (absf (k0_pay2 X W XS WS)) 0xFF800000#32
      reduces_S2048x20736_S2048 (.inl rfl) rfl (ix4_0 y))) := rfl
  rw [h, rowMax_apply, rscale_eq]
  rfl

/-- The codes' block, element by element. -/
theorem E5_eq (X : Vec Ideal S2048x2432 .fp8e4m3) (W : Vec Ideal S2432x20736 .fp8e4m3) (XS : Vec Ideal S2048x1 .f32) (WS : Vec Ideal S1x20736 .f32) :
    E5 X W XS WS = codes X W XS WS := by
  funext y
  have h : E5 X W XS WS y = min (Ideal.ofBits .f32 0x43E00000#32) (max (Ideal.ofBits .f32 0xC3E00000#32) (k0_pay2 X W XS WS (ix5_0 y)
      * FloatOps.exp2 (F := Ideal) (φ := .f32) (FloatOps.subf (Scalar.ofBits .f32 0x00000000#32) (rexp (multiReduction .maximumf [1] S2048 (absf (k0_pay2 X W XS WS)) 0xFF800000#32
        reduces_S2048x20736_S2048 (.inl rfl) rfl (ix5_2 y)))))) := rfl
  rw [h, rowMax_apply, rinv_eq, product_apply]
  rfl

/-- What the body leaves in the first result are the scales. -/
theorem out4_eq (X : Vec Ideal S2048x2432 .fp8e4m3) (W : Vec Ideal S2432x20736 .fp8e4m3) (XS : Vec Ideal S2048x1 .f32) (WS : Vec Ideal S1x20736 .f32) :
    out0_4 X XS W WS = scales X W XS WS := by
  rw [← E4_eq]
  funext y
  unfold out0_4
  rw [canon4_eq, View.ld_unit_zero hz, View.ld_unit_zero hz, View.ld_unit_zero hz, View.ld_unit_zero hz]

/-- What the body leaves in the second result are the codes. -/
theorem out5_eq (X : Vec Ideal S2048x2432 .fp8e4m3) (W : Vec Ideal S2432x20736 .fp8e4m3) (XS : Vec Ideal S2048x1 .f32) (WS : Vec Ideal S1x20736 .f32) :
    out0_5 X XS W WS = codes X W XS WS := by
  rw [← E5_eq]
  funext y
  unfold out0_5
  rw [canon5_eq, View.ld_unit_zero hz, View.ld_unit_zero hz, View.ld_unit_zero hz, View.ld_unit_zero hz]

/-- The first result array holds the scales. -/
theorem final4 (c : Dev nD) : (dats m 0 c).arrAt 4 cfg0.N = scales (aX m c) (aW m c) (aXS m c) (aWS m c) := by
  refine (dats m 0 c).arrAt_eq_of_cover 4 _ (fun t hf => ?_) (fun i => ?_)
  · rw [flushed4, iblk0, iblk1, iblk2, iblk3, out4_eq]
    exact (Memref.read_access_unit_zero (Elt Ideal) main_v2_0 (funext fun a => by revert t; fin_cases a <;> decide +kernel) _ _).symm
  · obtain ⟨t, ht⟩ : ∃ t : Fin cfg0.N, t.val = 0 := ⟨⟨0, by decide +kernel⟩, rfl⟩
    have hx : win0_4.index t 0 = 0 ∧ win0_4.index t 1 = 0 := by clear ht; revert t; decide +kernel
    refine ⟨t, by clear ht hx; revert t; decide +kernel, ?_⟩
    show i ∈ ((View.whole main_v2_0).slice (win0_4.rect t)).set
    rw [View.set_slice_whole, Rect.mem_set_unit]
    intro a
    have h0 : (i 0 : ℕ) < 2048 := (i 0).isLt
    have h1 : (i 1 : ℕ) < 1 := (i 1).isLt
    match a with
    | ⟨0, _⟩ => show win0_4.index t 0 * 2048 ≤ (i 0 : Nat) ∧ (i 0 : Nat) < win0_4.index t 0 * 2048 + 2048; rw [hx.1]; omega
    | ⟨1, _⟩ => show win0_4.index t 1 * 1 ≤ (i 1 : Nat) ∧ (i 1 : Nat) < win0_4.index t 1 * 1 + 1; rw [hx.2]; omega

/-- The second result array holds the codes. -/
theorem final5 (c : Dev nD) : (dats m 0 c).arrAt 5 cfg0.N = codes (aX m c) (aW m c) (aXS m c) (aWS m c) := by
  refine (dats m 0 c).arrAt_eq_of_cover 5 _ (fun t hf => ?_) (fun i => ?_)
  · rw [flushed5, iblk0, iblk1, iblk2, iblk3, out5_eq]
    exact (Memref.read_access_unit_zero (Elt Ideal) main_v2_1 (funext fun a => by revert t; fin_cases a <;> decide +kernel) _ _).symm
  · obtain ⟨t, ht⟩ : ∃ t : Fin cfg0.N, t.val = 0 := ⟨⟨0, by decide +kernel⟩, rfl⟩
    have hx : win0_5.index t 0 = 0 ∧ win0_5.index t 1 = 0 := by clear ht; revert t; decide +kernel
    refine ⟨t, by clear ht hx; revert t; decide +kernel, ?_⟩
    show i ∈ ((View.whole main_v2_1).slice (win0_5.rect t)).set
    rw [View.set_slice_whole, Rect.mem_set_unit]
    intro a
    have h0 : (i 0 : ℕ) < 2048 := (i 0).isLt
    have h1 : (i 1 : ℕ) < 20736 := (i 1).isLt
    match a with
    | ⟨0, _⟩ => show win0_5.index t 0 * 2048 ≤ (i 0 : Nat) ∧ (i 0 : Nat) < win0_5.index t 0 * 2048 + 2048; rw [hx.1]; omega
    | ⟨1, _⟩ => show win0_5.index t 1 * 20736 ≤ (i 1 : Nat) ∧ (i 1 : Nat) < win0_5.index t 1 * 20736 + 20736; rw [hx.2]; omega

/-- The run, read: the two result arrays at the scales and the codes, the arguments unchanged. -/
theorem run_value : θ_run defs (onTc (τ := τ) (main (F := Ideal))) ⟨m, fun _ => 0, ρ⟩ fun r => ∀ c : Dev nD,
      r.2.mem ((c : Thread nD τ).loc main_v2_0) = scales (aX m c) (aW m c) (aXS m c) (aWS m c)
      ∧ r.2.mem ((c : Thread nD τ).loc main_v2_1) = codes (aX m c) (aW m c) (aXS m c) (aWS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (run_blocks m ρ)

end Cert.ReferenceIdeal.Hand

end
-- ==== Proof.Equation.lean ====
/-
  The kernel and the reference, from memories agreeing on the arguments, end with equal results.
-/
module

public import proofs.«01_k».proof.Defs
public import proofs.«01_k».proof.Proof.KernelIdeal.Value
public import proofs.«01_k».proof.Proof.ReferenceIdeal.Value
public import Idealize.ShloMosaic.Lib.Claim

@[expose] public section

noncomputable section

namespace Cert

open Idealize.ShloMosaic Idealize.ShloMosaic.TcCoe Idealize.SL.Sem
open Cert.Spec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

namespace KernelIdeal.Hand
open Cert.KernelIdeal Cert.KernelIdeal.Gen

/-- The kernel's region finds the activations and their scales reshaped to two axes. -/
theorem aX_eq (c : Dev nD) : aX m c = shapeCast S2048x2432 (m ((c : Thread nD τ).loc main_arg0)) shapeCasts_S2x1024x2432_S2048x2432 := by
  unfold aX; entry_read; rfl
/-- The same of the activation scales. -/
theorem aXS_eq (c : Dev nD) : aXS m c = shapeCast S2048x1 (m ((c : Thread nD τ).loc main_arg1)) shapeCasts_S2x1024x1_S2048x1 := by
  unfold aXS; entry_read; rfl

end KernelIdeal.Hand

namespace ReferenceIdeal.Hand
open Cert.ReferenceIdeal Cert.ReferenceIdeal.Gen

/-- The reference's region likewise. -/
theorem aX_eq (c : Dev nD) : aX m' c = shapeCast S2048x2432 (m' ((c : Thread nD τ).loc main_arg0)) shapeCasts_S2x1024x2432_S2048x2432 := by
  unfold aX; entry_read; rfl
/-- The same of the activation scales. -/
theorem aXS_eq (c : Dev nD) : aXS m' c = shapeCast S2048x1 (m' ((c : Thread nD τ).loc main_arg1)) shapeCasts_S2x1024x1_S2048x1 := by
  unfold aXS; entry_read; rfl

end ReferenceIdeal.Hand

/-- The kernel's idealization computes what the reference computes: the same scales and the same codes. -/
theorem algebraic : algebraic_KernelIdeal_ReferenceIdeal (hKernelIdeal := Cert.KernelIdeal.Gen.facts) (hReferenceIdeal := Cert.ReferenceIdeal.Gen.facts) := by
  intro m g m' g' _ hargs
  refine ⟨fun c => scales (Cert.KernelIdeal.Hand.aX m c) (Cert.KernelIdeal.Hand.aW m c) (Cert.KernelIdeal.Hand.aXS m c) (Cert.KernelIdeal.Hand.aWS m c),
    fun c => codes (Cert.KernelIdeal.Hand.aX m c) (Cert.KernelIdeal.Hand.aW m c) (Cert.KernelIdeal.Hand.aXS m c) (Cert.KernelIdeal.Hand.aWS m c),
    Cert.KernelIdeal.Hand.run_value m g, (θ_run Cert.ReferenceIdeal.defs _ _).mono (fun _ h c => ?_) (Cert.ReferenceIdeal.Hand.run_value m' g')⟩
  obtain ⟨h0, h1, h2, h3⟩ := hargs c
  have e0 : Cert.ReferenceIdeal.Hand.aX m' c = Cert.KernelIdeal.Hand.aX m c := by
    rw [Cert.ReferenceIdeal.Hand.aX_eq, Cert.KernelIdeal.Hand.aX_eq]; exact congrArg (fun x => shapeCast _ x _) h0
  have e1 : Cert.ReferenceIdeal.Hand.aXS m' c = Cert.KernelIdeal.Hand.aXS m c := by
    rw [Cert.ReferenceIdeal.Hand.aXS_eq, Cert.KernelIdeal.Hand.aXS_eq]; exact congrArg (fun x => shapeCast _ x _) h1
  have e2 : Cert.ReferenceIdeal.Hand.aW m' c = Cert.KernelIdeal.Hand.aW m c :=
    (Cert.ReferenceIdeal.Gen.V_main_arg2 m' c).trans (h2.trans (Cert.KernelIdeal.Gen.V_main_arg2 m c).symm)
  have e3 : Cert.ReferenceIdeal.Hand.aWS m' c = Cert.KernelIdeal.Hand.aWS m c :=
    (Cert.ReferenceIdeal.Gen.V_main_arg3 m' c).trans (h3.trans (Cert.KernelIdeal.Gen.V_main_arg3 m c).symm)
  obtain ⟨r0, r1, rest⟩ := h c
  rw [e0, e1, e2, e3] at r0 r1
  exact ⟨r0, r1, rest⟩

end Cert

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Run
public import proofs.«01_k».proof.Proof.KernelIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, fun m ρ _ => Cert.Kernel.Hand.frame m ρ,
  fun m ρ _ => Cert.KernelIdeal.Hand.frame m ρ, fun m ρ _ => Cert.ReferenceIdeal.Gen.frame m ρ, trivial, Cert.algebraic⟩

end Cert.Proof

end
